-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_positions_and_offset_weights [hPre_finite_positions_and_offset_weights : Cert.Pre_finite_positions_and_offset_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_positions_and_offset_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_positions_and_offset_weights [hPre_finite_positions_and_offset_weights : Cert.Pre_finite_positions_and_offset_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_positions_and_offset_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_positions_and_offset_weights [hKernelIdeal : Cert.KernelIdeal.Facts] [hPre_finite_positions_and_offset_weights : Cert.Pre_finite_positions_and_offset_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_positions_and_offset_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_positions_and_offset_weights [hReferenceIdeal : Cert.ReferenceIdeal.Facts] [hPre_finite_positions_and_offset_weights : Cert.Pre_finite_positions_and_offset_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_positions_and_offset_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite_positions_and_offset_weights [hKernelIdeal : Cert.KernelIdeal.Facts] [hReferenceIdeal : Cert.ReferenceIdeal.Facts] [hPre_finite_positions_and_offset_weights : Cert.Pre_finite_positions_and_offset_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_positions_and_offset_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_positions_and_offset_weights : Cert.Pre_finite_positions_and_offset_weights.Facts),
    quiescent_Kernel (hKernel := hKernel)
    ∧ quiescent_KernelIdeal (hKernelIdeal := hKernelIdeal)
    ∧ quiescent_KernelIdeal_pre_finite_positions_and_offset_weights (hKernelIdeal := hKernelIdeal) (hPre_finite_positions_and_offset_weights := hPre_finite_positions_and_offset_weights)
    ∧ quiescent_ReferenceIdeal (hReferenceIdeal := hReferenceIdeal)
    ∧ quiescent_ReferenceIdeal_pre_finite_positions_and_offset_weights (hReferenceIdeal := hReferenceIdeal) (hPre_finite_positions_and_offset_weights := hPre_finite_positions_and_offset_weights)
    ∧ preserves_Kernel_KernelIdeal
    ∧ algebraic_KernelIdeal_ReferenceIdeal_pre_finite_positions_and_offset_weights (hKernelIdeal := hKernelIdeal) (hReferenceIdeal := hReferenceIdeal) (hPre_finite_positions_and_offset_weights := hPre_finite_positions_and_offset_weights)
-- ==== Pre_finite_positions_and_offset_weights.lean ====
abbrev S4x16x68x128 : Shape := ⟨4, ![4, 16, 68, 128]⟩
abbrev S512x200 : Shape := ⟨2, ![512, 200]⟩
abbrev S512 : Shape := ⟨1, ![512]⟩
abbrev S4x16x4x128 : Shape := ⟨4, ![4, 16, 4, 128]⟩
abbrev S512x4 : Shape := ⟨2, ![512, 4]⟩
abbrev S_ : Shape := ⟨0, ![]⟩

class Facts : Prop where
  slices_S4x16x68x128_S4x16x4x128_0_0_0_0 : S4x16x68x128.Slices ![0, 0, 0, 0] S4x16x4x128
  slices_S512x200_S512x4_0_68 : S512x200.Slices ![0, 68] S512x4
  bcast_S_S4x16x4x128 : S_.BroadcastsInDim S4x16x4x128 (![] : Fin 0 → Fin S4x16x4x128.rank)
  reducesTo_S4x16x4x128_S_d0_1_2_3 : S4x16x4x128.ReducesTo [0, 1, 2, 3] S_
  h_S_ : 0 < S_.numel
  bcast_S_S512x4 : S_.BroadcastsInDim S512x4 (![] : Fin 0 → Fin S512x4.rank)
  reducesTo_S512x4_S_d0_1 : S512x4.ReducesTo [0, 1] S_

variable [Facts]

def fn {F : FTy → Type} [FloatOps F] (main_arg0 : FVec F S4x16x68x128 .f32) (main_arg1 : FVec F S512x200 .f32) (main_arg2 : FVec F S512 .f32) : IVec S_ 1 :=
  let main_v0 : FVec F S4x16x4x128 .f32 := (extractStridedSlice S4x16x4x128 ![0, 0, 0, 0] · slices_S4x16x68x128_S4x16x4x128_0_0_0_0) main_arg0
  let main_v1 : FVec F S512x4 .f32 := (extractStridedSlice S512x4 ![0, 68] · slices_S512x200_S512x4_0_68) main_arg1
  let main_v2 : FVec F S4x16x4x128 .f32 := Host.absf main_v0
  let main_cst : FVec F S_ .f32 := constant S_ .f32 0x7F800000#32
  let main_v3 : FVec F S4x16x4x128 .f32 := broadcastInDim S4x16x4x128 ![] bcast_S_S4x16x4x128 main_cst
  let main_v4 : IVec S4x16x4x128 1 := cmpf .olt main_v2 main_v3
  let main_c : IVec S_ 1 := constantI S_ 1 1#1
  let main_v5 : IVec S_ 1 := (fun x v => Host.reduce IntOp.andi x v reducesTo_S4x16x4x128_S_d0_1_2_3 h_S_) main_v4 main_c
  let main_v6 : FVec F S512x4 .f32 := Host.absf main_v1
  let main_cst_0 : FVec F S_ .f32 := constant S_ .f32 0x7F800000#32
  let main_v7 : FVec F S512x4 .f32 := broadcastInDim S512x4 ![] bcast_S_S512x4 main_cst_0
  let main_v8 : IVec S512x4 1 := cmpf .olt main_v6 main_v7
  let main_c_1 : IVec S_ 1 := constantI S_ 1 1#1
  let main_v9 : IVec S_ 1 := (fun x v => Host.reduce IntOp.andi x v reducesTo_S512x4_S_d0_1 h_S_) main_v8 main_c_1
  let main_v10 : IVec S_ 1 := andi main_v5 main_v9
  main_v10
-- ==== Kernel.lean ====
abbrev S4x16x68x128 : Shape := ⟨4, ![4, 16, 68, 128]⟩
abbrev S512x200 : Shape := ⟨2, ![512, 200]⟩
abbrev S512 : Shape := ⟨1, ![512]⟩
abbrev S_ : Shape := ⟨0, ![]⟩
abbrev S384x1 : Shape := ⟨2, ![384, 1]⟩
abbrev S128x1 : Shape := ⟨2, ![128, 1]⟩
abbrev S512x1 : Shape := ⟨2, ![512, 1]⟩
abbrev S512x128 : Shape := ⟨2, ![512, 128]⟩
abbrev S512x68 : Shape := ⟨2, ![512, 68]⟩
abbrev S512x4 : Shape := ⟨2, ![512, 4]⟩
abbrev S512x136 : Shape := ⟨2, ![512, 136]⟩
abbrev S4x16x128x128 : Shape := ⟨4, ![4, 16, 128, 128]⟩
abbrev S4x16x4x128 : Shape := ⟨4, ![4, 16, 4, 128]⟩
abbrev S4x16x132x128 : Shape := ⟨4, ![4, 16, 132, 128]⟩
abbrev S4x640x256 : Shape := ⟨3, ![4, 640, 256]⟩
abbrev S136x512 : Shape := ⟨2, ![136, 512]⟩
abbrev S4x256x2048 : Shape := ⟨3, ![4, 256, 2048]⟩
abbrev S128x256 : Shape := ⟨2, ![128, 256]⟩
abbrev S1x128x256 : Shape := ⟨3, ![1, 128, 256]⟩
abbrev S128x2048 : Shape := ⟨2, ![128, 2048]⟩
abbrev S1x128x2048 : Shape := ⟨3, ![1, 128, 2048]⟩
abbrev S1x1x68x128 : Shape := ⟨4, ![1, 1, 68, 128]⟩
abbrev S68x128 : Shape := ⟨2, ![68, 128]⟩
abbrev S4x128 : Shape := ⟨2, ![4, 128]⟩
abbrev S1x4x128 : Shape := ⟨3, ![1, 4, 128]⟩
abbrev S4x4x128 : Shape := ⟨3, ![4, 4, 128]⟩
abbrev S1x1x4x128 : Shape := ⟨4, ![1, 1, 4, 128]⟩
abbrev S1x512x128 : Shape := ⟨3, ![1, 512, 128]⟩
abbrev S136x128 : Shape := ⟨2, ![136, 128]⟩
abbrev S4x1x128 : Shape := ⟨3, ![4, 1, 128]⟩
abbrev S4x128x1 : Shape := ⟨3, ![4, 128, 1]⟩
abbrev S4x128x128 : Shape := ⟨3, ![4, 128, 128]⟩
abbrev S1x128x128 : Shape := ⟨3, ![1, 128, 128]⟩
abbrev S128x128 : Shape := ⟨2, ![128, 128]⟩
abbrev S1x640x256 : Shape := ⟨3, ![1, 640, 256]⟩
abbrev S640x256 : Shape := ⟨2, ![640, 256]⟩
abbrev S1x256x2048 : Shape := ⟨3, ![1, 256, 2048]⟩
abbrev S256x2048 : Shape := ⟨2, ![256, 2048]⟩
abbrev S640x2048 : Shape := ⟨2, ![640, 2048]⟩
abbrev S128x1024 : Shape := ⟨2, ![128, 1024]⟩
abbrev S128x512 : Shape := ⟨2, ![128, 512]⟩
abbrev S1x1x128x128 : Shape := ⟨4, ![1, 1, 128, 128]⟩

abbrev nBuf : Space → Nat
  | .hbm => 23
  | .vmem => 9
  | .smem => 0
  | _ => 0

abbrev bufTy : (tb : Table) → Fin (tcTables nBuf tb) → BufTy
  | .hbm, ⟨0, _⟩ => ⟨S4x16x68x128, .f32⟩
  | .hbm, ⟨1, _⟩ => ⟨S512x200, .f32⟩
  | .hbm, ⟨2, _⟩ => ⟨S512, .f32⟩
  | .hbm, ⟨3, _⟩ => ⟨S_, .f32⟩
  | .hbm, ⟨4, _⟩ => ⟨S384x1, .f32⟩
  | .hbm, ⟨5, _⟩ => ⟨S_, .f32⟩
  | .hbm, ⟨6, _⟩ => ⟨S128x1, .f32⟩
  | .hbm, ⟨7, _⟩ => ⟨S512x1, .f32⟩
  | .hbm, ⟨8, _⟩ => ⟨S512x200, .f32⟩
  | .hbm, ⟨9, _⟩ => ⟨S512x200, .f32⟩
  | .hbm, ⟨10, _⟩ => ⟨S512x1, .f32⟩
  | .hbm, ⟨11, _⟩ => ⟨S512x1, .f32⟩
  | .hbm, ⟨12, _⟩ => ⟨S512x128, .f32⟩
  | .hbm, ⟨13, _⟩ => ⟨S512x68, .f32⟩
  | .hbm, ⟨14, _⟩ => ⟨S512x4, .f32⟩
  | .hbm, ⟨15, _⟩ => ⟨S512x128, .f32⟩
  | .hbm, ⟨16, _⟩ => ⟨S_, .f32⟩
  | .hbm, ⟨17, _⟩ => ⟨S512x4, .f32⟩
  | .hbm, ⟨18, _⟩ => ⟨S512x136, .f32⟩
  | .hbm, ⟨19, _⟩ => ⟨S512x136, .bf16⟩
  | .hbm, ⟨20, _⟩ => ⟨S4x16x128x128, .f32⟩
  | .hbm, ⟨21, _⟩ => ⟨S4x16x4x128, .f32⟩
  | .hbm, ⟨22, _⟩ => ⟨S4x16x132x128, .f32⟩
  | .local _ .vmem, ⟨0, _⟩ => ⟨S4x16x68x128, .f32⟩
  | .local _ .vmem, ⟨1, _⟩ => ⟨S512x68, .f32⟩
  | .local _ .vmem, ⟨2, _⟩ => ⟨S512x4, .f32⟩
  | .local _ .vmem, ⟨3, _⟩ => ⟨S512x136, .bf16⟩
  | .local _ .vmem, ⟨4, _⟩ => ⟨S512x128, .f32⟩
  | .local _ .vmem, ⟨5, _⟩ => ⟨S4x16x128x128, .f32⟩
  | .local _ .vmem, ⟨6, _⟩ => ⟨S4x640x256, .bf16⟩
  | .local _ .vmem, ⟨7, _⟩ => ⟨S136x512, .bf16⟩
  | .local _ .vmem, ⟨8, _⟩ => ⟨S4x256x2048, .bf16⟩
  | _, _ => ⟨S4x16x68x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_cst_1 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_v0 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v48 : BitVec 32 := Scalar.addi c0_i32 c16_i32
  let c1_i32 : BitVec 32 := 1#32
  ⟨c0_i32, v48, c1_i32⟩
def k0_off1 (k0_t1 : Fin k0_t1_loop.trips) : Fin 4 → Nat :=
  let c0_36 : Index := 0#32
  let c0_i32 : BitVec 32 := 0#32
  let c1_i32 : BitVec 32 := 1#32
  let arg9 : BitVec 32 := Scf.iv c0_i32 c1_i32 k0_t1
  let v51 : Index := Scalar.indexCast arg9
  let c0_37 : Index := 0#32
  let c0_38 : Index := 0#32
  ![0, v51.toNat, 0, 0]
def k0_off2 (k0_t1 : Fin k0_t1_loop.trips) : Fin 4 → Nat :=
  let c1_39 : Index := 1#32
  let c0_i32 : BitVec 32 := 0#32
  let c1_i32 : BitVec 32 := 1#32
  let arg9 : BitVec 32 := Scf.iv c0_i32 c1_i32 k0_t1
  let v54 : Index := Scalar.indexCast arg9
  let c0_40 : Index := 0#32
  let c0_41 : Index := 0#32
  ![1, v54.toNat, 0, 0]
def k0_off3 (k0_t1 : Fin k0_t1_loop.trips) : Fin 4 → Nat :=
  let c2_42 : Index := 2#32
  let c0_i32 : BitVec 32 := 0#32
  let c1_i32 : BitVec 32 := 1#32
  let arg9 : BitVec 32 := Scf.iv c0_i32 c1_i32 k0_t1
  let v57 : Index := Scalar.indexCast arg9
  let c0_43 : Index := 0#32
  let c0_44 : Index := 0#32
  ![2, v57.toNat, 0, 0]
def k0_off4 (k0_t1 : Fin k0_t1_loop.trips) : Fin 4 → Nat :=
  let c3_45 : Index := 3#32
  let c0_i32 : BitVec 32 := 0#32
  let c1_i32 : BitVec 32 := 1#32
  let arg9 : BitVec 32 := Scf.iv c0_i32 c1_i32 k0_t1
  let v60 : Index := Scalar.indexCast arg9
  let c0_46 : Index := 0#32
  let c0_47 : Index := 0#32
  ![3, v60.toNat, 0, 0]
def k0_off5 (k0_t1 : Fin k0_t1_loop.trips) : Fin 4 → Nat :=
  let c0_48 : Index := 0#32
  let c0_i32 : BitVec 32 := 0#32
  let c1_i32 : BitVec 32 := 1#32
  let arg9 : BitVec 32 := Scf.iv c0_i32 c1_i32 k0_t1
  let c1_i32_34 : BitVec 32 := 1#32
  let v49 : BitVec 32 := Scalar.subi arg9 c1_i32_34
  let c0_i32_35 : BitVec 32 := 0#32
  let v50 : BitVec 32 := Scalar.maxsi v49 c0_i32_35
  let v72 : Index := Scalar.indexCast v50
  let c0_49 : Index := 0#32
  let c0_50 : Index := 0#32
  ![0, v72.toNat, 0, 0]
def k0_off6 (k0_t1 : Fin k0_t1_loop.trips) : Fin 4 → Nat :=
  let c1_51 : Index := 1#32
  let c0_i32 : BitVec 32 := 0#32
  let c1_i32 : BitVec 32 := 1#32
  let arg9 : BitVec 32 := Scf.iv c0_i32 c1_i32 k0_t1
  let c1_i32_34 : BitVec 32 := 1#32
  let v49 : BitVec 32 := Scalar.subi arg9 c1_i32_34
  let c0_i32_35 : BitVec 32 := 0#32
  let v50 : BitVec 32 := Scalar.maxsi v49 c0_i32_35
  let v75 : Index := Scalar.indexCast v50
  let c0_52 : Index := 0#32
  let c0_53 : Index := 0#32
  ![1, v75.toNat, 0, 0]
def k0_off7 (k0_t1 : Fin k0_t1_loop.trips) : Fin 4 → Nat :=
  let c2_54 : Index := 2#32
  let c0_i32 : BitVec 32 := 0#32
  let c1_i32 : BitVec 32 := 1#32
  let arg9 : BitVec 32 := Scf.iv c0_i32 c1_i32 k0_t1
  let c1_i32_34 : BitVec 32 := 1#32
  let v49 : BitVec 32 := Scalar.subi arg9 c1_i32_34
  let c0_i32_35 : BitVec 32 := 0#32
  let v50 : BitVec 32 := Scalar.maxsi v49 c0_i32_35
  let v78 : Index := Scalar.indexCast v50
  let c0_55 : Index := 0#32
  let c0_56 : Index := 0#32
  ![2, v78.toNat, 0, 0]
def k0_off8 (k0_t1 : Fin k0_t1_loop.trips) : Fin 4 → Nat :=
  let c3_57 : Index := 3#32
  let c0_i32 : BitVec 32 := 0#32
  let c1_i32 : BitVec 32 := 1#32
  let arg9 : BitVec 32 := Scf.iv c0_i32 c1_i32 k0_t1
  let c1_i32_34 : BitVec 32 := 1#32
  let v49 : BitVec 32 := Scalar.subi arg9 c1_i32_34
  let c0_i32_35 : BitVec 32 := 0#32
  let v50 : BitVec 32 := Scalar.maxsi v49 c0_i32_35
  let v81 : Index := Scalar.indexCast v50
  let c0_58 : Index := 0#32
  let c0_59 : Index := 0#32
  ![3, v81.toNat, 0, 0]
def k0_off9 (k0_t1 : Fin k0_t1_loop.trips) : Fin 4 → Nat :=
  let c0_355 : Index := 0#32
  let c0_i32 : BitVec 32 := 0#32
  let c1_i32 : BitVec 32 := 1#32
  let arg9 : BitVec 32 := Scf.iv c0_i32 c1_i32 k0_t1
  let v842 : Index := Scalar.indexCast arg9
  let c0_356 : Index := 0#32
  let c0_357 : Index := 0#32
  ![0, v842.toNat, 0, 0]
def k0_off10 (k0_t1 : Fin k0_t1_loop.trips) : Fin 4 → Nat :=
  let c1_376 : Index := 1#32
  let c0_i32 : BitVec 32 := 0#32
  let c1_i32 : BitVec 32 := 1#32
  let arg9 : BitVec 32 := Scf.iv c0_i32 c1_i32 k0_t1
  let v909 : Index := Scalar.indexCast arg9
  let c0_377 : Index := 0#32
  let c0_378 : Index := 0#32
  ![1, v909.toNat, 0, 0]
def k0_off11 (k0_t1 : Fin k0_t1_loop.trips) : Fin 4 → Nat :=
  let c2_397 : Index := 2#32
  let c0_i32 : BitVec 32 := 0#32
  let c1_i32 : BitVec 32 := 1#32
  let arg9 : BitVec 32 := Scf.iv c0_i32 c1_i32 k0_t1
  let v976 : Index := Scalar.indexCast arg9
  let c0_398 : Index := 0#32
  let c0_399 : Index := 0#32
  ![2, v976.toNat, 0, 0]
def k0_off12 (k0_t1 : Fin k0_t1_loop.trips) : Fin 4 → Nat :=
  let c3_418 : Index := 3#32
  let c0_i32 : BitVec 32 := 0#32
  let c1_i32 : BitVec 32 := 1#32
  let arg9 : BitVec 32 := Scf.iv c0_i32 c1_i32 k0_t1
  let v1043 : Index := Scalar.indexCast arg9
  let c0_419 : Index := 0#32
  let c0_420 : Index := 0#32
  ![3, v1043.toNat, 0, 0]
abbrev stage0_0 : Fin 1 → Memref sig .tc .vmem S4x16x68x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x68 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x136 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "big" => some ⊤
  | _ => none
-- ==== ReferenceIdeal.lean ====
abbrev S4x16x68x128 : Shape := ⟨4, ![4, 16, 68, 128]⟩
abbrev S512x200 : Shape := ⟨2, ![512, 200]⟩
abbrev S512 : Shape := ⟨1, ![512]⟩
abbrev S4x16x4x128 : Shape := ⟨4, ![4, 16, 4, 128]⟩
abbrev S_ : Shape := ⟨0, ![]⟩
abbrev S4x128x128 : Shape := ⟨3, ![4, 128, 128]⟩
abbrev S4x16x132x128 : Shape := ⟨4, ![4, 16, 132, 128]⟩
abbrev S4x1x68x128 : Shape := ⟨4, ![4, 1, 68, 128]⟩
abbrev S4x68x128 : Shape := ⟨3, ![4, 68, 128]⟩
abbrev S4x1x4x128 : Shape := ⟨4, ![4, 1, 4, 128]⟩
abbrev S4x4x128 : Shape := ⟨3, ![4, 4, 128]⟩
abbrev S4x4x128x1 : Shape := ⟨4, ![4, 4, 128, 1]⟩
abbrev S4x4x1x128 : Shape := ⟨4, ![4, 4, 1, 128]⟩
abbrev S4x4x128x128 : Shape := ⟨4, ![4, 4, 128, 128]⟩
abbrev S4x128x16 : Shape := ⟨3, ![4, 128, 16]⟩
abbrev S4x1x128x16 : Shape := ⟨4, ![4, 1, 128, 16]⟩
abbrev S4x4x128x16 : Shape := ⟨4, ![4, 4, 128, 16]⟩
abbrev S4x4x128x16x1 : Shape := ⟨5, ![4, 4, 128, 16, 1]⟩
abbrev S1 : Shape := ⟨1, ![1]⟩
abbrev S1x1x1x1x1 : Shape := ⟨5, ![1, 1, 1, 1, 1]⟩
abbrev S4x128x1x128 : Shape := ⟨4, ![4, 128, 1, 128]⟩
abbrev S4x128x128x128 : Shape := ⟨4, ![4, 128, 128, 128]⟩
abbrev S4x128x128x16 : Shape := ⟨4, ![4, 128, 128, 16]⟩
abbrev S4x128x128x16x1 : Shape := ⟨5, ![4, 128, 128, 16, 1]⟩
abbrev S4x68x128x1 : Shape := ⟨4, ![4, 68, 128, 1]⟩
abbrev S4x68x128x16 : Shape := ⟨4, ![4, 68, 128, 16]⟩
abbrev S4x200x128x16 : Shape := ⟨4, ![4, 200, 128, 16]⟩
abbrev S4x128x16x512 : Shape := ⟨4, ![4, 128, 16, 512]⟩
abbrev S4x512x128x16 : Shape := ⟨4, ![4, 512, 128, 16]⟩
abbrev S1x512x1x1 : Shape := ⟨4, ![1, 512, 1, 1]⟩
abbrev S4x132x128 : Shape := ⟨3, ![4, 132, 128]⟩
abbrev S4x1x132x128 : Shape := ⟨4, ![4, 1, 132, 128]⟩

abbrev nBuf : Space → Nat
  | .hbm => 216
  | .vmem => 0
  | .smem => 0
  | _ => 0

abbrev hbmTy0_0 (i : Nat) : BufTy := match i % 128 with
  | 0 => ⟨S4x16x68x128, .f32⟩
  | 1 => ⟨S512x200, .f32⟩
  | 2 => ⟨S512, .f32⟩
  | 3 => ⟨S4x16x4x128, .f32⟩
  | 4 => ⟨S_, .f32⟩
  | 5 => ⟨S4x128x128, .f32⟩
  | 6 => ⟨S_, .f32⟩
  | 7 => ⟨S4x128x128, .f32⟩
  | 8 => ⟨S_, .f32⟩
  | 9 => ⟨S4x16x132x128, .f32⟩
  | 10 => ⟨S_, .i32⟩
  | 11 => ⟨S_, .i32⟩
  | 12 => ⟨S4x16x68x128, .f32⟩
  | 13 => ⟨S4x16x4x128, .f32⟩
  | 14 => ⟨S512x200, .f32⟩
  | 15 => ⟨S512, .f32⟩
  | 16 => ⟨S_, .i32⟩
  | 17 => ⟨S_, .i32⟩
  | 18 => ⟨S4x128x128, .f32⟩
  | 19 => ⟨S4x128x128, .f32⟩
  | 20 => ⟨S4x16x132x128, .f32⟩
  | 21 => ⟨S_, .i32⟩
  | 22 => ⟨S_, .i1⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S4x1x68x128, .f32⟩
  | 35 => ⟨S4x68x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S4x1x4x128, .f32⟩
  | 46 => ⟨S4x4x128, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S4x1x4x128, .f32⟩
  | 63 => ⟨S4x4x128, .f32⟩
  | 64 => ⟨S4x4x128x1, .f32⟩
  | 65 => ⟨S4x4x1x128, .f32⟩
  | 66 => ⟨S4x4x128x128, .f32⟩
  | 67 => ⟨S4x4x128x128, .f32⟩
  | 68 => ⟨S4x4x128x128, .f32⟩
  | 69 => ⟨S4x4x128x128, .f32⟩
  | 70 => ⟨S_, .f32⟩
  | 71 => ⟨S4x128x128, .f32⟩
  | 72 => ⟨S4x128x128, .f32⟩
  | 73 => ⟨S4x128x128, .f32⟩
  | 74 => ⟨S4x128x16, .f32⟩
  | 75 => ⟨S4x128x16, .i32⟩
  | 76 => ⟨S4x4x1x128, .f32⟩
  | 77 => ⟨S4x4x128x128, .f32⟩
  | 78 => ⟨S4x1x128x16, .i32⟩
  | 79 => ⟨S4x4x128x16, .i32⟩
  | 80 => ⟨S_, .i32⟩
  | 81 => ⟨S4x4x128x16, .i32⟩
  | 82 => ⟨S4x4x128x16, .i1⟩
  | 83 => ⟨S_, .i32⟩
  | 84 => ⟨S4x4x128x16, .i32⟩
  | 85 => ⟨S4x4x128x16, .i32⟩
  | 86 => ⟨S4x4x128x16, .i32⟩
  | 87 => ⟨S4x4x128x16x1, .i32⟩
  | 88 => ⟨S1, .i32⟩
  | 89 => ⟨S_, .i32⟩
  | 90 => ⟨S4x4x128x16x1, .i32⟩
  | 91 => ⟨S4x4x128x16x1, .i1⟩
  | 92 => ⟨S1x1x1x1x1, .i32⟩
  | 93 => ⟨S4x4x128x16x1, .i32⟩
  | 94 => ⟨S4x4x128x16x1, .i1⟩
  | 95 => ⟨S4x4x128x16x1, .i1⟩
  | 96 => ⟨S_, .i1⟩
  | 97 => ⟨S4x4x128x16, .i1⟩
  | 98 => ⟨S4x4x128x16, .f32⟩
  | 99 => ⟨S_, .f32⟩
  | 100 => ⟨S4x4x128x16, .f32⟩
  | 101 => ⟨S4x4x128x16, .f32⟩
  | 102 => ⟨S4x128x1x128, .f32⟩
  | 103 => ⟨S4x128x128x128, .f32⟩
  | 104 => ⟨S4x1x128x16, .i32⟩
  | 105 => ⟨S4x128x128x16, .i32⟩
  | 106 => ⟨S_, .i32⟩
  | 107 => ⟨S4x128x128x16, .i32⟩
  | 108 => ⟨S4x128x128x16, .i1⟩
  | 109 => ⟨S_, .i32⟩
  | 110 => ⟨S4x128x128x16, .i32⟩
  | 111 => ⟨S4x128x128x16, .i32⟩
  | 112 => ⟨S4x128x128x16, .i32⟩
  | 113 => ⟨S4x128x128x16x1, .i32⟩
  | 114 => ⟨S1, .i32⟩
  | 115 => ⟨S_, .i32⟩
  | 116 => ⟨S4x128x128x16x1, .i32⟩
  | 117 => ⟨S4x128x128x16x1, .i1⟩
  | 118 => ⟨S1x1x1x1x1, .i32⟩
  | 119 => ⟨S4x128x128x16x1, .i32⟩
  | 120 => ⟨S4x128x128x16x1, .i1⟩
  | 121 => ⟨S4x128x128x16x1, .i1⟩
  | 122 => ⟨S_, .i1⟩
  | 123 => ⟨S4x128x128x16, .i1⟩
  | 124 => ⟨S4x128x128x16, .f32⟩
  | 125 => ⟨S_, .f32⟩
  | 126 => ⟨S4x128x128x16, .f32⟩
  | 127 => ⟨S4x128x128x16, .f32⟩
  | _ => ⟨S4x16x68x128, .f32⟩

abbrev hbmTy0_1 (i : Nat) : BufTy := match i % 128 with
  | 0 => ⟨S4x128x1x128, .f32⟩
  | 1 => ⟨S4x128x128x128, .f32⟩
  | 2 => ⟨S4x1x128x16, .i32⟩
  | 3 => ⟨S4x128x128x16, .i32⟩
  | 4 => ⟨S_, .i32⟩
  | 5 => ⟨S4x128x128x16, .i32⟩
  | 6 => ⟨S4x128x128x16, .i1⟩
  | 7 => ⟨S_, .i32⟩
  | 8 => ⟨S4x128x128x16, .i32⟩
  | 9 => ⟨S4x128x128x16, .i32⟩
  | 10 => ⟨S4x128x128x16, .i32⟩
  | 11 => ⟨S4x128x128x16x1, .i32⟩
  | 12 => ⟨S1, .i32⟩
  | 13 => ⟨S_, .i32⟩
  | 14 => ⟨S4x128x128x16x1, .i32⟩
  | 15 => ⟨S4x128x128x16x1, .i1⟩
  | 16 => ⟨S1x1x1x1x1, .i32⟩
  | 17 => ⟨S4x128x128x16x1, .i32⟩
  | 18 => ⟨S4x128x128x16x1, .i1⟩
  | 19 => ⟨S4x128x128x16x1, .i1⟩
  | 20 => ⟨S_, .i1⟩
  | 21 => ⟨S4x128x128x16, .i1⟩
  | 22 => ⟨S4x128x128x16, .f32⟩
  | 23 => ⟨S_, .f32⟩
  | 24 => ⟨S4x128x128x16, .f32⟩
  | 25 => ⟨S4x128x128x16, .f32⟩
  | 26 => ⟨S4x68x128x1, .f32⟩
  | 27 => ⟨S4x68x128x16, .f32⟩
  | 28 => ⟨S4x4x128x16, .f32⟩
  | 29 => ⟨S4x4x128x16, .f32⟩
  | 30 => ⟨S4x200x128x16, .f32⟩
  | 31 => ⟨S4x128x16x512, .f32⟩
  | 32 => ⟨S4x512x128x16, .f32⟩
  | 33 => ⟨S1x512x1x1, .f32⟩
  | 34 => ⟨S4x512x128x16, .f32⟩
  | 35 => ⟨S4x512x128x16, .f32⟩
  | 36 => ⟨S4x128x128x16, .f32⟩
  | 37 => ⟨S4x128x128x16, .f32⟩
  | 38 => ⟨S4x128x128x16, .f32⟩
  | 39 => ⟨S4x128x128x16, .f32⟩
  | 40 => ⟨S4x128x128x16, .f32⟩
  | 41 => ⟨S4x128x128x16, .f32⟩
  | 42 => ⟨S_, .f32⟩
  | 43 => ⟨S4x128x128x16, .f32⟩
  | 44 => ⟨S4x128x128x16, .f32⟩
  | 45 => ⟨S_, .f32⟩
  | 46 => ⟨S4x128x128x16, .f32⟩
  | 47 => ⟨S4x128x128x16, .f32⟩
  | 48 => ⟨S4x128x128x16, .f32⟩
  | 49 => ⟨S4x128x128x16, .f32⟩
  | 50 => ⟨S_, .f32⟩
  | 51 => ⟨S4x128x128x16, .f32⟩
  | 52 => ⟨S4x128x128x16, .f32⟩
  | 53 => ⟨S_, .f32⟩
  | 54 => ⟨S4x128x128x16, .f32⟩
  | 55 => ⟨S4x128x128x16, .f32⟩
  | 56 => ⟨S4x128x128x16, .f32⟩
  | 57 => ⟨S4x128x128x16, .f32⟩
  | 58 => ⟨S_, .f32⟩
  | 59 => ⟨S4x128x128x16, .f32⟩
  | 60 => ⟨S4x128x128x16, .f32⟩
  | 61 => ⟨S_, .f32⟩
  | 62 => ⟨S4x128x128x16, .f32⟩
  | 63 => ⟨S4x128x128x16, .f32⟩
  | 64 => ⟨S4x128x128x16, .f32⟩
  | 65 => ⟨S4x128x128x16, .f32⟩
  | 66 => ⟨S4x128x128x16, .f32⟩
  | 67 => ⟨S4x128x128x16, .f32⟩
  | 68 => ⟨S4x128x128x16, .f32⟩
  | 69 => ⟨S4x128x128x16, .f32⟩
  | 70 => ⟨S_, .f32⟩
  | 71 => ⟨S4x128x128, .f32⟩
  | 72 => ⟨S_, .f32⟩
  | 73 => ⟨S4x128x128, .f32⟩
  | 74 => ⟨S4x132x128, .f32⟩
  | 75 => ⟨S4x1x132x128, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S4x16x132x128, .f32⟩
  | 86 => ⟨S_, .i32⟩
  | 87 => ⟨S_, .i32⟩
  | _ => ⟨S4x16x68x128, .f32⟩

abbrev hbmTy (i : Nat) : BufTy := match i / 128 with
  | 0 => hbmTy0_0 i
  | 1 => hbmTy0_1 i
  | _ => ⟨S4x16x68x128, .f32⟩

abbrev bufTy : (tb : Table) → Fin (tcTables nBuf tb) → BufTy
  | .hbm, ⟨i, _⟩ => hbmTy i
  | _, _ => ⟨S4x16x68x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_c : Ref sig .tc := ⟨.hbm, 10, rfl⟩
abbrev main_c_2 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_v4_8 : Ref sig .tc := ⟨.hbm, 20, rfl⟩
abbrev main_while0c_c_11 : Ref sig .tc := ⟨.hbm, 21, rfl⟩
abbrev main_while0c_v5 : Ref sig .tc := ⟨.hbm, 22, rfl⟩
abbrev main_while0b_c_11 : Ref sig .tc := ⟨.hbm, 23, rfl⟩
abbrev main_while0b_v5 : Ref sig .tc := ⟨.hbm, 24, rfl⟩
abbrev main_while0b_call0_c : Ref sig .tc := ⟨.hbm, 25, rfl⟩
abbrev main_while0b_call0_v0 : Ref sig .tc := ⟨.hbm, 26, rfl⟩
abbrev main_while0b_call0_v1 : Ref sig .tc := ⟨.hbm, 27, rfl⟩
abbrev main_while0b_call0_c_0 : Ref sig .tc := ⟨.hbm, 28, rfl⟩
abbrev main_while0b_call0_v2 : Ref sig .tc := ⟨.hbm, 29, rfl⟩
abbrev main_while0b_call0_v3 : Ref sig .tc := ⟨.hbm, 30, rfl⟩
abbrev main_while0b_call0_c_1 : Ref sig .tc := ⟨.hbm, 31, rfl⟩
abbrev main_while0b_call0_c_2 : Ref sig .tc := ⟨.hbm, 32, rfl⟩
abbrev main_while0b_call0_c_3 : Ref sig .tc := ⟨.hbm, 33, rfl⟩
abbrev main_while0b_call0_v4 : Ref sig .tc := ⟨.hbm, 34, rfl⟩
abbrev main_while0b_v6 : Ref sig .tc := ⟨.hbm, 35, rfl⟩
abbrev main_while0b_call1_c : Ref sig .tc := ⟨.hbm, 36, rfl⟩
abbrev main_while0b_call1_v0 : Ref sig .tc := ⟨.hbm, 37, rfl⟩
abbrev main_while0b_call1_v1 : Ref sig .tc := ⟨.hbm, 38, rfl⟩
abbrev main_while0b_call1_c_0 : Ref sig .tc := ⟨.hbm, 39, rfl⟩
abbrev main_while0b_call1_v2 : Ref sig .tc := ⟨.hbm, 40, rfl⟩
abbrev main_while0b_call1_v3 : Ref sig .tc := ⟨.hbm, 41, rfl⟩
abbrev main_while0b_call1_c_1 : Ref sig .tc := ⟨.hbm, 42, rfl⟩
abbrev main_while0b_call1_c_2 : Ref sig .tc := ⟨.hbm, 43, rfl⟩
abbrev main_while0b_call1_c_3 : Ref sig .tc := ⟨.hbm, 44, rfl⟩
abbrev main_while0b_call1_v4 : Ref sig .tc := ⟨.hbm, 45, rfl⟩
abbrev main_while0b_v7 : Ref sig .tc := ⟨.hbm, 46, rfl⟩
abbrev main_while0b_c_12 : Ref sig .tc := ⟨.hbm, 47, rfl⟩
abbrev main_while0b_v8 : Ref sig .tc := ⟨.hbm, 48, rfl⟩
abbrev main_while0b_c_13 : Ref sig .tc := ⟨.hbm, 49, rfl⟩
abbrev main_while0b_v9 : Ref sig .tc := ⟨.hbm, 50, rfl⟩
abbrev main_while0b_c_14 : Ref sig .tc := ⟨.hbm, 51, rfl⟩
abbrev main_while0b_v10 : Ref sig .tc := ⟨.hbm, 52, rfl⟩
abbrev main_while0b_call3_c : Ref sig .tc := ⟨.hbm, 53, rfl⟩
abbrev main_while0b_call3_v0 : Ref sig .tc := ⟨.hbm, 54, rfl⟩
abbrev main_while0b_call3_v1 : Ref sig .tc := ⟨.hbm, 55, rfl⟩
abbrev main_while0b_call3_c_0 : Ref sig .tc := ⟨.hbm, 56, rfl⟩
abbrev main_while0b_call3_v2 : Ref sig .tc := ⟨.hbm, 57, rfl⟩
abbrev main_while0b_call3_v3 : Ref sig .tc := ⟨.hbm, 58, rfl⟩
abbrev main_while0b_call3_c_1 : Ref sig .tc := ⟨.hbm, 59, rfl⟩
abbrev main_while0b_call3_c_2 : Ref sig .tc := ⟨.hbm, 60, rfl⟩
abbrev main_while0b_call3_c_3 : Ref sig .tc := ⟨.hbm, 61, rfl⟩
abbrev main_while0b_call3_v4 : Ref sig .tc := ⟨.hbm, 62, rfl⟩
abbrev main_while0b_v11 : Ref sig .tc := ⟨.hbm, 63, rfl⟩
abbrev main_while0b_v12 : Ref sig .tc := ⟨.hbm, 64, rfl⟩
abbrev main_while0b_v13 : Ref sig .tc := ⟨.hbm, 65, rfl⟩
abbrev main_while0b_v14 : Ref sig .tc := ⟨.hbm, 66, rfl⟩
abbrev main_while0b_v15 : Ref sig .tc := ⟨.hbm, 67, rfl⟩
abbrev main_while0b_v16 : Ref sig .tc := ⟨.hbm, 68, rfl⟩
abbrev main_while0b_v17 : Ref sig .tc := ⟨.hbm, 69, rfl⟩
abbrev main_while0b_cst_15 : Ref sig .tc := ⟨.hbm, 70, rfl⟩
abbrev main_while0b_v18 : Ref sig .tc := ⟨.hbm, 71, rfl⟩
abbrev main_while0b_v19 : Ref sig .tc := ⟨.hbm, 72, rfl⟩
abbrev main_while0b_v20 : Ref sig .tc := ⟨.hbm, 73, rfl⟩
abbrev main_while0b_values : Ref sig .tc := ⟨.hbm, 74, rfl⟩
abbrev main_while0b_indices : Ref sig .tc := ⟨.hbm, 75, rfl⟩
abbrev main_while0b_v21 : Ref sig .tc := ⟨.hbm, 76, rfl⟩
abbrev main_while0b_v22 : Ref sig .tc := ⟨.hbm, 77, rfl⟩
abbrev main_while0b_v23 : Ref sig .tc := ⟨.hbm, 78, rfl⟩
abbrev main_while0b_v24 : Ref sig .tc := ⟨.hbm, 79, rfl⟩
abbrev main_while0b_call4_c : Ref sig .tc := ⟨.hbm, 80, rfl⟩
abbrev main_while0b_call4_v0 : Ref sig .tc := ⟨.hbm, 81, rfl⟩
abbrev main_while0b_call4_v1 : Ref sig .tc := ⟨.hbm, 82, rfl⟩
abbrev main_while0b_call4_c_0 : Ref sig .tc := ⟨.hbm, 83, rfl⟩
abbrev main_while0b_call4_v2 : Ref sig .tc := ⟨.hbm, 84, rfl⟩
abbrev main_while0b_call4_v3 : Ref sig .tc := ⟨.hbm, 85, rfl⟩
abbrev main_while0b_call4_v4 : Ref sig .tc := ⟨.hbm, 86, rfl⟩
abbrev main_while0b_call4_v5 : Ref sig .tc := ⟨.hbm, 87, rfl⟩
abbrev main_while0b_call4_c_1 : Ref sig .tc := ⟨.hbm, 88, rfl⟩
abbrev main_while0b_call4_c_2 : Ref sig .tc := ⟨.hbm, 89, rfl⟩
abbrev main_while0b_call4_v6 : Ref sig .tc := ⟨.hbm, 90, rfl⟩
abbrev main_while0b_call4_v7 : Ref sig .tc := ⟨.hbm, 91, rfl⟩
abbrev main_while0b_call4_v8 : Ref sig .tc := ⟨.hbm, 92, rfl⟩
abbrev main_while0b_call4_v9 : Ref sig .tc := ⟨.hbm, 93, rfl⟩
abbrev main_while0b_call4_v10 : Ref sig .tc := ⟨.hbm, 94, rfl⟩
abbrev main_while0b_call4_v11 : Ref sig .tc := ⟨.hbm, 95, rfl⟩
abbrev main_while0b_call4_c_3 : Ref sig .tc := ⟨.hbm, 96, rfl⟩
abbrev main_while0b_call4_v12 : Ref sig .tc := ⟨.hbm, 97, rfl⟩
abbrev main_while0b_call4_v13 : Ref sig .tc := ⟨.hbm, 98, rfl⟩
abbrev main_while0b_call4_cst : Ref sig .tc := ⟨.hbm, 99, rfl⟩
abbrev main_while0b_call4_v14 : Ref sig .tc := ⟨.hbm, 100, rfl⟩
abbrev main_while0b_v25 : Ref sig .tc := ⟨.hbm, 101, rfl⟩
abbrev main_while0b_v26 : Ref sig .tc := ⟨.hbm, 102, rfl⟩
abbrev main_while0b_v27 : Ref sig .tc := ⟨.hbm, 103, rfl⟩
abbrev main_while0b_v28 : Ref sig .tc := ⟨.hbm, 104, rfl⟩
abbrev main_while0b_v29 : Ref sig .tc := ⟨.hbm, 105, rfl⟩
abbrev main_while0b_call5_c : Ref sig .tc := ⟨.hbm, 106, rfl⟩
abbrev main_while0b_call5_v0 : Ref sig .tc := ⟨.hbm, 107, rfl⟩
abbrev main_while0b_call5_v1 : Ref sig .tc := ⟨.hbm, 108, rfl⟩
abbrev main_while0b_call5_c_0 : Ref sig .tc := ⟨.hbm, 109, rfl⟩
abbrev main_while0b_call5_v2 : Ref sig .tc := ⟨.hbm, 110, rfl⟩
abbrev main_while0b_call5_v3 : Ref sig .tc := ⟨.hbm, 111, rfl⟩
abbrev main_while0b_call5_v4 : Ref sig .tc := ⟨.hbm, 112, rfl⟩
abbrev main_while0b_call5_v5 : Ref sig .tc := ⟨.hbm, 113, rfl⟩
abbrev main_while0b_call5_c_1 : Ref sig .tc := ⟨.hbm, 114, rfl⟩
abbrev main_while0b_call5_c_2 : Ref sig .tc := ⟨.hbm, 115, rfl⟩
abbrev main_while0b_call5_v6 : Ref sig .tc := ⟨.hbm, 116, rfl⟩
abbrev main_while0b_call5_v7 : Ref sig .tc := ⟨.hbm, 117, rfl⟩
abbrev main_while0b_call5_v8 : Ref sig .tc := ⟨.hbm, 118, rfl⟩
abbrev main_while0b_call5_v9 : Ref sig .tc := ⟨.hbm, 119, rfl⟩
abbrev main_while0b_call5_v10 : Ref sig .tc := ⟨.hbm, 120, rfl⟩
abbrev main_while0b_call5_v11 : Ref sig .tc := ⟨.hbm, 121, rfl⟩
abbrev main_while0b_call5_c_3 : Ref sig .tc := ⟨.hbm, 122, rfl⟩
abbrev main_while0b_call5_v12 : Ref sig .tc := ⟨.hbm, 123, rfl⟩
abbrev main_while0b_call5_v13 : Ref sig .tc := ⟨.hbm, 124, rfl⟩
abbrev main_while0b_call5_cst : Ref sig .tc := ⟨.hbm, 125, rfl⟩
abbrev main_while0b_call5_v14 : Ref sig .tc := ⟨.hbm, 126, rfl⟩
abbrev main_while0b_v30 : Ref sig .tc := ⟨.hbm, 127, rfl⟩
abbrev main_while0b_v31 : Ref sig .tc := ⟨.hbm, 128, rfl⟩
abbrev main_while0b_v32 : Ref sig .tc := ⟨.hbm, 129, rfl⟩
abbrev main_while0b_v33 : Ref sig .tc := ⟨.hbm, 130, rfl⟩
abbrev main_while0b_v34 : Ref sig .tc := ⟨.hbm, 131, rfl⟩
abbrev main_while0b_call6_c : Ref sig .tc := ⟨.hbm, 132, rfl⟩
abbrev main_while0b_call6_v0 : Ref sig .tc := ⟨.hbm, 133, rfl⟩
abbrev main_while0b_call6_v1 : Ref sig .tc := ⟨.hbm, 134, rfl⟩
abbrev main_while0b_call6_c_0 : Ref sig .tc := ⟨.hbm, 135, rfl⟩
abbrev main_while0b_call6_v2 : Ref sig .tc := ⟨.hbm, 136, rfl⟩
abbrev main_while0b_call6_v3 : Ref sig .tc := ⟨.hbm, 137, rfl⟩
abbrev main_while0b_call6_v4 : Ref sig .tc := ⟨.hbm, 138, rfl⟩
abbrev main_while0b_call6_v5 : Ref sig .tc := ⟨.hbm, 139, rfl⟩
abbrev main_while0b_call6_c_1 : Ref sig .tc := ⟨.hbm, 140, rfl⟩
abbrev main_while0b_call6_c_2 : Ref sig .tc := ⟨.hbm, 141, rfl⟩
abbrev main_while0b_call6_v6 : Ref sig .tc := ⟨.hbm, 142, rfl⟩
abbrev main_while0b_call6_v7 : Ref sig .tc := ⟨.hbm, 143, rfl⟩
abbrev main_while0b_call6_v8 : Ref sig .tc := ⟨.hbm, 144, rfl⟩
abbrev main_while0b_call6_v9 : Ref sig .tc := ⟨.hbm, 145, rfl⟩
abbrev main_while0b_call6_v10 : Ref sig .tc := ⟨.hbm, 146, rfl⟩
abbrev main_while0b_call6_v11 : Ref sig .tc := ⟨.hbm, 147, rfl⟩
abbrev main_while0b_call6_c_3 : Ref sig .tc := ⟨.hbm, 148, rfl⟩
abbrev main_while0b_call6_v12 : Ref sig .tc := ⟨.hbm, 149, rfl⟩
abbrev main_while0b_call6_v13 : Ref sig .tc := ⟨.hbm, 150, rfl⟩
abbrev main_while0b_call6_cst : Ref sig .tc := ⟨.hbm, 151, rfl⟩
abbrev main_while0b_call6_v14 : Ref sig .tc := ⟨.hbm, 152, rfl⟩
abbrev main_while0b_v35 : Ref sig .tc := ⟨.hbm, 153, rfl⟩
abbrev main_while0b_v36 : Ref sig .tc := ⟨.hbm, 154, rfl⟩
abbrev main_while0b_v37 : Ref sig .tc := ⟨.hbm, 155, rfl⟩
abbrev main_while0b_v38 : Ref sig .tc := ⟨.hbm, 156, rfl⟩
abbrev main_while0b_v39 : Ref sig .tc := ⟨.hbm, 157, rfl⟩
abbrev main_while0b_v40 : Ref sig .tc := ⟨.hbm, 158, rfl⟩
abbrev main_while0b_v41 : Ref sig .tc := ⟨.hbm, 159, rfl⟩
abbrev main_while0b_v42 : Ref sig .tc := ⟨.hbm, 160, rfl⟩
abbrev main_while0b_v43 : Ref sig .tc := ⟨.hbm, 161, rfl⟩
abbrev main_while0b_v44 : Ref sig .tc := ⟨.hbm, 162, rfl⟩
abbrev main_while0b_v45 : Ref sig .tc := ⟨.hbm, 163, rfl⟩
abbrev main_while0b_v46 : Ref sig .tc := ⟨.hbm, 164, rfl⟩
abbrev main_while0b_v47 : Ref sig .tc := ⟨.hbm, 165, rfl⟩
abbrev main_while0b_v48 : Ref sig .tc := ⟨.hbm, 166, rfl⟩
abbrev main_while0b_v49 : Ref sig .tc := ⟨.hbm, 167, rfl⟩
abbrev main_while0b_v50 : Ref sig .tc := ⟨.hbm, 168, rfl⟩
abbrev main_while0b_v51 : Ref sig .tc := ⟨.hbm, 169, rfl⟩
abbrev main_while0b_cst_16 : Ref sig .tc := ⟨.hbm, 170, rfl⟩
abbrev main_while0b_v52 : Ref sig .tc := ⟨.hbm, 171, rfl⟩
abbrev main_while0b_v53 : Ref sig .tc := ⟨.hbm, 172, rfl⟩
abbrev main_while0b_cst_17 : Ref sig .tc := ⟨.hbm, 173, rfl⟩
abbrev main_while0b_v54 : Ref sig .tc := ⟨.hbm, 174, rfl⟩
abbrev main_while0b_v55 : Ref sig .tc := ⟨.hbm, 175, rfl⟩
abbrev main_while0b_v56 : Ref sig .tc := ⟨.hbm, 176, rfl⟩
abbrev main_while0b_v57 : Ref sig .tc := ⟨.hbm, 177, rfl⟩
abbrev main_while0b_cst_18 : Ref sig .tc := ⟨.hbm, 178, rfl⟩
abbrev main_while0b_v58 : Ref sig .tc := ⟨.hbm, 179, rfl⟩
abbrev main_while0b_v59 : Ref sig .tc := ⟨.hbm, 180, rfl⟩
abbrev main_while0b_cst_19 : Ref sig .tc := ⟨.hbm, 181, rfl⟩
abbrev main_while0b_v60 : Ref sig .tc := ⟨.hbm, 182, rfl⟩
abbrev main_while0b_v61 : Ref sig .tc := ⟨.hbm, 183, rfl⟩
abbrev main_while0b_v62 : Ref sig .tc := ⟨.hbm, 184, rfl⟩
abbrev main_while0b_v63 : Ref sig .tc := ⟨.hbm, 185, rfl⟩
abbrev main_while0b_cst_20 : Ref sig .tc := ⟨.hbm, 186, rfl⟩
abbrev main_while0b_v64 : Ref sig .tc := ⟨.hbm, 187, rfl⟩
abbrev main_while0b_v65 : Ref sig .tc := ⟨.hbm, 188, rfl⟩
abbrev main_while0b_cst_21 : Ref sig .tc := ⟨.hbm, 189, rfl⟩
abbrev main_while0b_v66 : Ref sig .tc := ⟨.hbm, 190, rfl⟩
abbrev main_while0b_v67 : Ref sig .tc := ⟨.hbm, 191, rfl⟩
abbrev main_while0b_v68 : Ref sig .tc := ⟨.hbm, 192, rfl⟩
abbrev main_while0b_v69 : Ref sig .tc := ⟨.hbm, 193, rfl⟩
abbrev main_while0b_v70 : Ref sig .tc := ⟨.hbm, 194, rfl⟩
abbrev main_while0b_v71 : Ref sig .tc := ⟨.hbm, 195, rfl⟩
abbrev main_while0b_v72 : Ref sig .tc := ⟨.hbm, 196, rfl⟩
abbrev main_while0b_v73 : Ref sig .tc := ⟨.hbm, 197, rfl⟩
abbrev main_while0b_cst_22 : Ref sig .tc := ⟨.hbm, 198, rfl⟩
abbrev main_while0b_v74 : Ref sig .tc := ⟨.hbm, 199, rfl⟩
abbrev main_while0b_cst_23 : Ref sig .tc := ⟨.hbm, 200, rfl⟩
abbrev main_while0b_v75 : Ref sig .tc := ⟨.hbm, 201, rfl⟩
abbrev main_while0b_v76 : Ref sig .tc := ⟨.hbm, 202, rfl⟩
abbrev main_while0b_call7_v0 : Ref sig .tc := ⟨.hbm, 203, rfl⟩
abbrev main_while0b_call7_c : Ref sig .tc := ⟨.hbm, 204, rfl⟩
abbrev main_while0b_call7_v1 : Ref sig .tc := ⟨.hbm, 205, rfl⟩
abbrev main_while0b_call7_v2 : Ref sig .tc := ⟨.hbm, 206, rfl⟩
abbrev main_while0b_call7_c_0 : Ref sig .tc := ⟨.hbm, 207, rfl⟩
abbrev main_while0b_call7_v3 : Ref sig .tc := ⟨.hbm, 208, rfl⟩
abbrev main_while0b_call7_v4 : Ref sig .tc := ⟨.hbm, 209, rfl⟩
abbrev main_while0b_call7_c_1 : Ref sig .tc := ⟨.hbm, 210, rfl⟩
abbrev main_while0b_call7_c_2 : Ref sig .tc := ⟨.hbm, 211, rfl⟩
abbrev main_while0b_call7_c_3 : Ref sig .tc := ⟨.hbm, 212, rfl⟩
abbrev main_while0b_v77 : Ref sig .tc := ⟨.hbm, 213, rfl⟩
abbrev main_while0b_c_24 : Ref sig .tc := ⟨.hbm, 214, rfl⟩
abbrev main_while0b_v78 : Ref sig .tc := ⟨.hbm, 215, rfl⟩

abbrev nD : Nat := 1
abbrev τ : Topo := Topo.v7x

variable {F : FTy → Type} [FloatOps F]

abbrev main_while0_count : Scf.Loop 32 := ⟨0#32, 16#32, 1#32⟩
-- ==== Proof.KernelIdealRun.lean ====
module

public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.Claim

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The memory the body works on: the five inputs, the output and the three scratch buffers, each whole. -/
abbrev Held (c : Dev nD) (arg0 : Memref sig .tc .vmem S4x16x68x128 .f32) (arg1 : Memref sig .tc .vmem S512x68 .f32)
    (arg2 : Memref sig .tc .vmem S512x4 .f32) (arg3 : Memref sig .tc .vmem S512x136 .bf16) (arg4 : Memref sig .tc .vmem S512x128 .f32)
    (arg5 : Memref sig .tc .vmem S4x16x128x128 .f32) (arg6 : Memref sig .tc .vmem S4x640x256 .bf16)
    (arg7 : Memref sig .tc .vmem S136x512 .bf16) (arg8 : Memref sig .tc .vmem S4x256x2048 .bf16)
    (X0 : BufTy.Contents (Elt F) arg0.view.ty) (X1 : BufTy.Contents (Elt F) arg1.view.ty) (X2 : BufTy.Contents (Elt F) arg2.view.ty)
    (X3 : BufTy.Contents (Elt F) arg3.view.ty) (X4 : BufTy.Contents (Elt F) arg4.view.ty)
    (f5 : BufTy.Contents (Elt F) arg5.view.ty) (f6 : BufTy.Contents (Elt F) arg6.view.ty)
    (f7 : BufTy.Contents (Elt F) arg7.view.ty) (f8 : BufTy.Contents (Elt F) arg8.view.ty) : sProp 𝕄 :=
  iprop((arg0.view.loc (c : Thread nD τ) ↦[arg0.view.set]{fullShare} X0) ∗ (arg1.view.loc (c : Thread nD τ) ↦[arg1.view.set]{fullShare} X1)
    ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7)
    ∗ (arg8.view.loc (c : Thread nD τ) ↦[arg8.view.set]{fullShare} f8))

variable (c : Dev nD) (arg0 : Memref sig .tc .vmem S4x16x68x128 .f32) (harg0 : arg0.IsWhole) (arg1 : Memref sig .tc .vmem S512x68 .f32) (harg1 : arg1.IsWhole)
    (arg2 : Memref sig .tc .vmem S512x4 .f32) (harg2 : arg2.IsWhole) (arg3 : Memref sig .tc .vmem S512x136 .bf16) (harg3 : arg3.IsWhole)
    (arg4 : Memref sig .tc .vmem S512x128 .f32) (harg4 : arg4.IsWhole) (arg5 : Memref sig .tc .vmem S4x16x128x128 .f32) (harg5 : arg5.IsWhole)
    (arg6 : Memref sig .tc .vmem S4x640x256 .bf16) (harg6 : arg6.IsWhole) (arg7 : Memref sig .tc .vmem S136x512 .bf16) (harg7 : arg7.IsWhole)
    (arg8 : Memref sig .tc .vmem S4x256x2048 .bf16) (harg8 : arg8.IsWhole)
    (X0 : BufTy.Contents (Elt F) arg0.view.ty) (X1 : BufTy.Contents (Elt F) arg1.view.ty) (X2 : BufTy.Contents (Elt F) arg2.view.ty)
    (X3 : BufTy.Contents (Elt F) arg3.view.ty) (X4 : BufTy.Contents (Elt F) arg4.view.ty)

/-- What the body stores before its loop, and the values it loads there. -/
def pre6 : List (View.Piece (Elt F) S4x640x256 .bf16) :=
  [⟨Rect.unit ![3, 512, 0] S1x128x256.size inb_S4x640x256_S1x128x256_3_512_0, k0_pay191⟩,
    ⟨Rect.unit ![2, 512, 0] S1x128x256.size inb_S4x640x256_S1x128x256_2_512_0, k0_pay190⟩,
    ⟨Rect.unit ![1, 512, 0] S1x128x256.size inb_S4x640x256_S1x128x256_1_512_0, k0_pay189⟩,
    ⟨Rect.unit ![0, 512, 0] S1x128x256.size inb_S4x640x256_S1x128x256_0_512_0, k0_pay188⟩]
@[inherit_doc pre6] def pre7 : List (View.Piece (Elt F) S136x512 .bf16) :=
  [⟨Rect.unit ![0, 0] S136x512.size inb_S136x512_S136x512_0_0, k0_pay187⟩]
@[inherit_doc pre6] def pre8 : List (View.Piece (Elt F) S4x256x2048 .bf16) :=
  [⟨Rect.unit ![3, 128, 0] S1x128x2048.size inb_S4x256x2048_S1x128x2048_3_128_0, k0_pay5⟩,
    ⟨Rect.unit ![2, 128, 0] S1x128x2048.size inb_S4x256x2048_S1x128x2048_2_128_0, k0_pay4⟩,
    ⟨Rect.unit ![1, 128, 0] S1x128x2048.size inb_S4x256x2048_S1x128x2048_1_128_0, k0_pay3⟩,
    ⟨Rect.unit ![0, 128, 0] S1x128x2048.size inb_S4x256x2048_S1x128x2048_0_128_0, k0_pay2⟩]
@[inherit_doc pre6] def ld1 : FVec F S512x68 .f32 :=
  k0_pay183 (arg1.view.readAt (Elt F) (Rect.unit (s := S512x68) ![0, 0] S512x68.size inb_S512x68_S512x68_0_0).toLoadRect X1)
@[inherit_doc pre6] def ld2 : FVec F S512x4 .f32 :=
  k0_pay184 (arg2.view.readAt (Elt F) (Rect.unit (s := S512x4) ![0, 0] S512x4.size inb_S512x4_S512x4_0_0).toLoadRect X2)
@[inherit_doc pre6] def ld3 : FVec F S512x136 .bf16 :=
  k0_pay185 (arg3.view.readAt (Elt F) (Rect.unit (s := S512x136) ![0, 0] S512x136.size inb_S512x136_S512x136_0_0).toLoadRect X3)
@[inherit_doc pre6] def ld4 : FVec F S512x128 .f32 :=
  k0_pay186 (arg4.view.readAt (Elt F) (Rect.unit (s := S512x128) ![0, 0] S512x128.size inb_S512x128_S512x128_0_0).toLoadRect X4)

/-- The constant the body masks a chosen distance with. -/
def big : F .f32 := Named.named κ "big" 0x7F61B1E6#32

/-- The pieces the first `n` rounds of the loop store, from the scratch contents `g6 g7 g8` the loop starts at. -/
def pieces (f5 : BufTy.Contents (Elt F) arg5.view.ty) (g6 : BufTy.Contents (Elt F) arg6.view.ty)
    (g7 : BufTy.Contents (Elt F) arg7.view.ty) (g8 : BufTy.Contents (Elt F) arg8.view.ty) (n : ℕ) :=
  pb_k0_t1 Variants.none c none arg0 harg0 arg1 harg1 arg2 harg2 arg3 harg3 arg4 harg4 arg5 harg5 arg6 harg6 arg7 harg7 arg8 harg8
    (ld1 arg1 X1) (ld2 arg2 X2) (ld3 arg3 X3) (ld4 arg4 X4) big X0 f5 g6 g7 g8 n

/-- The body's run: the inputs stay, the output holds the pieces the sixteen rounds store, the scratch holds something. -/
theorem body_run (f5 : BufTy.Contents (Elt F) arg5.view.ty) (f6 : BufTy.Contents (Elt F) arg6.view.ty)
    (f7 : BufTy.Contents (Elt F) arg7.view.ty) (f8 : BufTy.Contents (Elt F) arg8.view.ty) (K : PUnit → sProp 𝕄) :
    iprop(Held c arg0 arg1 arg2 arg3 arg4 arg5 arg6 arg7 arg8 X0 X1 X2 X3 X4 f5 f6 f7 f8
        ∗ (iprop(∃ g6 g7 g8, Held c arg0 arg1 arg2 arg3 arg4 arg5 arg6 arg7 arg8 X0 X1 X2 X3 X4
            (arg5.view.writes (Elt F) f5 (pieces c arg0 harg0 arg1 harg1 arg2 harg2 arg3 harg3 arg4 harg4 arg5 harg5 arg6 harg6 arg7 harg7 arg8 harg8
              X0 X1 X2 X3 X4 f5 (arg6.view.writes (Elt F) f6 pre6) (arg7.view.writes (Elt F) arg7.view.junk pre7) (arg8.view.writes (Elt F) f8 pre8)
              (Scf.trips k0_t1_loop.lb k0_t1_loop.ub k0_t1_loop.st)).1) g6 g7 g8) -∗ K ⟨⟩))
      ⊢ wp frame (wpE (defs₀ (F := F)) Variants.none c none) Set.univ
          (cc0__encoder_kernel arg0 harg0 arg1 harg1 arg2 harg2 arg3 harg3 arg4 harg4 arg5 harg5 arg6 harg6 arg7 harg7 arg8 harg8) K := by
  simp only [cc0__encoder_kernel_eq_skeleton]; unfold cc0__encoder_kernel_skel
  iintro ⟨⟨H0, H1, H2, H3, H4, H5, H6, H7, H8⟩, Hk⟩
  sl_exec
  sl_step
  iapply Hk
  iexists _, _, _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body leaves the output block `O` from input blocks `x0 … x4`, whatever memory it is run on and whatever
    the scratch held before. -/
def Leaves (x0 : S4x16x68x128.Idx → Elt F .f32) (x1 : S512x68.Idx → Elt F .f32) (x2 : S512x4.Idx → Elt F .f32)
    (x3 : S512x136.Idx → Elt F .bf16) (x4 : S512x128.Idx → Elt F .f32) (O : S4x16x128x128.Idx → Elt F .f32) : Prop :=
  ∀ (c : Dev nD) (arg0 : Memref sig .tc .vmem S4x16x68x128 .f32) (harg0 : arg0.IsWhole) (arg1 : Memref sig .tc .vmem S512x68 .f32) (harg1 : arg1.IsWhole)
    (arg2 : Memref sig .tc .vmem S512x4 .f32) (harg2 : arg2.IsWhole) (arg3 : Memref sig .tc .vmem S512x136 .bf16) (harg3 : arg3.IsWhole)
    (arg4 : Memref sig .tc .vmem S512x128 .f32) (harg4 : arg4.IsWhole) (arg5 : Memref sig .tc .vmem S4x16x128x128 .f32) (harg5 : arg5.IsWhole)
    (arg6 : Memref sig .tc .vmem S4x640x256 .bf16) (harg6 : arg6.IsWhole) (arg7 : Memref sig .tc .vmem S136x512 .bf16) (harg7 : arg7.IsWhole)
    (arg8 : Memref sig .tc .vmem S4x256x2048 .bf16) (harg8 : arg8.IsWhole)
    (X0 : BufTy.Contents (Elt F) arg0.view.ty) (X1 : BufTy.Contents (Elt F) arg1.view.ty) (X2 : BufTy.Contents (Elt F) arg2.view.ty)
    (X3 : BufTy.Contents (Elt F) arg3.view.ty) (X4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty),
    arg0.view.read (Elt F) X0 = x0 → arg1.view.read (Elt F) X1 = x1 → arg2.view.read (Elt F) X2 = x2 →
    arg3.view.read (Elt F) X3 = x3 → arg4.view.read (Elt F) X4 = x4 →
    arg5.view.read (Elt F) (arg5.view.writes (Elt F) f5 (pieces c arg0 harg0 arg1 harg1 arg2 harg2 arg3 harg3 arg4 harg4 arg5 harg5 arg6 harg6
      arg7 harg7 arg8 harg8 X0 X1 X2 X3 X4 f5 (arg6.view.writes (Elt F) f6 pre6) (arg7.view.writes (Elt F) f7 pre7)
      (arg8.view.writes (Elt F) f8 pre8) (Scf.trips k0_t1_loop.lb k0_t1_loop.ub k0_t1_loop.st)).1) = O

/-! ## The launch -/

variable (m : (ℓ : Loc nD τ sig) → Buf (Elt F) ℓ) (ρ : Dev nD → PrngReg)

/-- A buffer's contents when the region starts: the host operations before it, run on the launch contents. -/
abbrev V (c : Dev nD) (b : Ref sig .tc) : Buf (Elt F) ((c : Thread nD τ).loc b) :=
  StableHlo.after hostOps0 (fun b => m (c, b)) b

/-- The host operations before the region allocate nothing. -/
theorem hostOps0_fresh : (hostOps0 (F := F)).Forall fun op => op.fresh = ∅ := by
  simp only [List.Forall]; repeat' constructor
/-- The host operations after the region allocate nothing. -/
theorem hostOps1_fresh : (hostOps1 (F := F)).Forall fun op => op.fresh = ∅ := by
  simp only [List.Forall]; repeat' constructor

/-- No host operation before the region writes an argument. -/
theorem V_arg (b : Ref sig .tc) (hb : b = main_arg0 ∨ b = main_arg1 ∨ b = main_arg2) (c : Dev nD) : V m c b = m ((c : Thread nD τ).loc b) :=
  StableHlo.after_of_forall_not_mem (b := Proc.devRef .tc b) _ _ (List.forall_iff_forall_mem.mp (by
    rcases hb with rfl | rfl | rfl <;>
    · simp only [hostOps0, List.Forall, StableHlo.nullary_writes, StableHlo.unary_writes, StableHlo.binary_writes, StableHlo.ternary_writes,
        StableHlo.nary_writes, StableHlo.reshape_writes, Finset.mem_singleton]
      repeat' apply And.intro
      all_goals exact StableHlo.devRef_ne_of_ne (by decide)))

/-- Window `w`'s block, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as the region finds them; the body leaves the input blocks and, in the output, `O c`. -/
def dats (O : Dev nD → S4x16x128x128.Idx → Elt F .f32) (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => O c
  Φ _ := Pipeline.ΦA spec0 c
  q _ := fullShare
  owed _ := 0

variable (O : Dev nD → S4x16x128x128.Idx → Elt F .f32)

/-- An array holds at the region's start what the host operations before it left there. -/
theorem A_eq (c : Dev nD) (w : Fin cfg0.W) : (dats m O 0 c).A w = V m c (Pipeline.arrRef spec0 w) := by dsimp only [dats]

/-- Input window 0's staging buffer holds its block when the body runs. -/
theorem before_0 (c : Dev nD) (t : Fin cfg0.N) (d) : (dats m O 0 c).before 0 t d = iblk m c 0 t :=
  (dats m O 0 c).before_in_eq_fetched 0 rfl (fun _ => rfl) (fun _ _ _ => rfl) (fun _ => rfl) t d
/-- Input window 1's staging buffer holds its block when the body runs. -/
theorem before_1 (c : Dev nD) (t : Fin cfg0.N) (d) : (dats m O 0 c).before 1 t d = iblk m c 1 t :=
  (dats m O 0 c).before_in_eq_fetched 1 rfl (fun _ => rfl) (fun _ _ _ => rfl) (fun _ => rfl) t d
/-- Input window 2's staging buffer holds its block when the body runs. -/
theorem before_2 (c : Dev nD) (t : Fin cfg0.N) (d) : (dats m O 0 c).before 2 t d = iblk m c 2 t :=
  (dats m O 0 c).before_in_eq_fetched 2 rfl (fun _ => rfl) (fun _ _ _ => rfl) (fun _ => rfl) t d
/-- Input window 3's staging buffer holds its block when the body runs. -/
theorem before_3 (c : Dev nD) (t : Fin cfg0.N) (d) : (dats m O 0 c).before 3 t d = iblk m c 3 t :=
  (dats m O 0 c).before_in_eq_fetched 3 rfl (fun _ => rfl) (fun _ _ _ => rfl) (fun _ => rfl) t d
/-- Input window 4's staging buffer holds its block when the body runs. -/
theorem before_4 (c : Dev nD) (t : Fin cfg0.N) (d) : (dats m O 0 c).before 4 t d = iblk m c 4 t :=
  (dats m O 0 c).before_in_eq_fetched 4 rfl (fun _ => rfl) (fun _ _ _ => rfl) (fun _ => rfl) t d

/-- The output alone is left unnamed. -/
def forgets0 : Fin 6 → Bool
  | 5 => true
  | _ => false

/-- The region's body at a grid point is the kernel's function at that point's buffers. -/
theorem defs₀_row (t : Fin cfg0.N) : defs₀ (F := F) .tc cfg0.body (cfg0.bodyArgs t (cfg0.slots t)) = bodyAt0 t := by
  unfold defs₀; rw [Defs.onTc_tc]

/-- The blocks the body finds in its five input windows leave the output block `O c`. -/
def OutIs : Prop := ∀ c, Leaves (iblk m c 0 t0_0) (iblk m c 1 t0_0) (iblk m c 2 t0_0) (iblk m c 3 t0_0) (iblk m c 4 t0_0) (O c)

/-- A scratch buffer owned whole, in the two ways it is spelled. -/
theorem scratch_eq (c : Dev nD) (b : Ref sig .tc) (f : b.ty.Contents (Elt F)) :
    ((Memref.whole b).view.loc (c : Thread nD τ) ↦[(Memref.whole b).view.set]{fullShare} f : sProp 𝕄) = ((c : Thread nD τ).loc b ↦{fullShare} f) := by
  simp only [Memref.view_whole, View.set_whole]

/-- The body run between its windows: the inputs' blocks are kept, and of what it leaves in the output holds
    any `P` that holds of every result of `body_run`. -/
theorem body_core (c : Dev nD) (P : (S4x16x128x128.Idx → Elt F .f32) → Prop)
    (hP : ∀ X0 X1 X2 X3 X4 f5 f6 f7 f8, (win0_0.stage (cfg0.slots t0_0 0)).view.read (Elt F) X0 = iblk m c 0 t0_0 →
      (win0_1.stage (cfg0.slots t0_0 1)).view.read (Elt F) X1 = iblk m c 1 t0_0 →
      (win0_2.stage (cfg0.slots t0_0 2)).view.read (Elt F) X2 = iblk m c 2 t0_0 →
      (win0_3.stage (cfg0.slots t0_0 3)).view.read (Elt F) X3 = iblk m c 3 t0_0 →
      (win0_4.stage (cfg0.slots t0_0 4)).view.read (Elt F) X4 = iblk m c 4 t0_0 →
      P ((win0_5.stage (cfg0.slots t0_0 5)).view.read (Elt F) ((win0_5.stage (cfg0.slots t0_0 5)).view.writes (Elt F) f5
        (pieces c (win0_0.stage (cfg0.slots t0_0 0)) (hstage0_0 0) (win0_1.stage (cfg0.slots t0_0 1)) (hstage0_1 0)
          (win0_2.stage (cfg0.slots t0_0 2)) (hstage0_2 0) (win0_3.stage (cfg0.slots t0_0 3)) (hstage0_3 0) (win0_4.stage (cfg0.slots t0_0 4)) (hstage0_4 0)
          (win0_5.stage (cfg0.slots t0_0 5)) (hstage0_5 0) (Memref.whole cc0_scratch0) (Memref.isWhole_whole _) (Memref.whole cc0_scratch1)
          (Memref.isWhole_whole _) (Memref.whole cc0_scratch2) (Memref.isWhole_whole _) X0 X1 X2 X3 X4 f5
          ((Memref.whole cc0_scratch0).view.writes (Elt F) f6 pre6)
          ((Memref.whole cc0_scratch1).view.writes (Elt F) f7 pre7)
          ((Memref.whole cc0_scratch2).view.writes (Elt F) f8 pre8)
          (Scf.trips k0_t1_loop.lb k0_t1_loop.ub k0_t1_loop.st)).1))) :
    iprop(Pipeline.ΦA (U := UR sig nD τ) (Val := Elt F) spec0 c ∗ (dats m O 0 c).owesAt () t0_0.castSucc
      ∗ (∃ d, owns (c : Thread nD τ) (win0_0.stage (cfg0.slots t0_0 0)) fullShare ((dats m O 0 c).before 0 t0_0 d))
      ∗ (∃ d, owns (c : Thread nD τ) (win0_1.stage (cfg0.slots t0_0 1)) fullShare ((dats m O 0 c).before 1 t0_0 d))
      ∗ (∃ d, owns (c : Thread nD τ) (win0_2.stage (cfg0.slots t0_0 2)) fullShare ((dats m O 0 c).before 2 t0_0 d))
      ∗ (∃ d, owns (c : Thread nD τ) (win0_3.stage (cfg0.slots t0_0 3)) fullShare ((dats m O 0 c).before 3 t0_0 d))
      ∗ (∃ d, owns (c : Thread nD τ) (win0_4.stage (cfg0.slots t0_0 4)) fullShare ((dats m O 0 c).before 4 t0_0 d))
      ∗ (∃ X, owns (c : Thread nD τ) (win0_5.stage (cfg0.slots t0_0 5)) fullShare X))
    ⊢ wp frame (wpE (defs₀ (F := F)) Variants.none c none) Set.univ (bodyAt0 t0_0) (fun _ =>
      iprop(Pipeline.ΦA (U := UR sig nD τ) (Val := Elt F) spec0 c ∗ (dats m O 0 c).owesAt () t0_0.succ
        ∗ owns (c : Thread nD τ) (win0_0.stage (cfg0.slots t0_0 0)) fullShare (iblk m c 0 t0_0)
        ∗ owns (c : Thread nD τ) (win0_1.stage (cfg0.slots t0_0 1)) fullShare (iblk m c 1 t0_0)
        ∗ owns (c : Thread nD τ) (win0_2.stage (cfg0.slots t0_0 2)) fullShare (iblk m c 2 t0_0)
        ∗ owns (c : Thread nD τ) (win0_3.stage (cfg0.slots t0_0 3)) fullShare (iblk m c 3 t0_0)
        ∗ owns (c : Thread nD τ) (win0_4.stage (cfg0.slots t0_0 4)) fullShare (iblk m c 4 t0_0)
        ∗ (∃ X, ⌜P X⌝ ∗ owns (c : Thread nD τ) (win0_5.stage (cfg0.slots t0_0 5)) fullShare X))) := by
  unfold Pipeline.ΦA Dat.owesAt Pipeline.owesWithin; rw [scopedRest0_eq]
  rw [show (dats m O 0 c).owed t0_0.castSucc = 0 from rfl, show (dats m O 0 c).owed t0_0.succ = 0 from rfl]
  unfold owns
  iintro ⟨⟨⟨⟨%f6, H6⟩, ⟨%f7, H7⟩, ⟨%f8, H8⟩⟩, Hr⟩, ⟨%W, %hW, HO⟩, ⟨%d0, %X0, %h0, H0⟩, ⟨%d1, %X1, %h1, H1⟩, ⟨%d2, %X2, %h2, H2⟩,
    ⟨%d3, %X3, %h3, H3⟩, ⟨%d4, %X4, %h4, H4⟩, ⟨%d5, %f5, -, H5⟩⟩
  rw [before_0] at h0; rw [before_1] at h1; rw [before_2] at h2; rw [before_3] at h3; rw [before_4] at h4
  iapply (body_run c (win0_0.stage (cfg0.slots t0_0 0)) (hstage0_0 0) (win0_1.stage (cfg0.slots t0_0 1)) (hstage0_1 0)
    (win0_2.stage (cfg0.slots t0_0 2)) (hstage0_2 0) (win0_3.stage (cfg0.slots t0_0 3)) (hstage0_3 0) (win0_4.stage (cfg0.slots t0_0 4)) (hstage0_4 0)
    (win0_5.stage (cfg0.slots t0_0 5)) (hstage0_5 0) (Memref.whole cc0_scratch0) (Memref.isWhole_whole _) (Memref.whole cc0_scratch1)
    (Memref.isWhole_whole _) (Memref.whole cc0_scratch2) (Memref.isWhole_whole _) X0 X1 X2 X3 X4 f5 f6 f7 f8 _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iapply (Entails.of_eq (scratch_eq c _ f6).symm); iexact H6
    isplitl [H7]; · iapply (Entails.of_eq (scratch_eq c _ f7).symm); iexact H7
    iapply (Entails.of_eq (scratch_eq c _ f8).symm); iexact H8
  iintro ⟨%g6, %g7, %g8, H0, H1, H2, H3, H4, H5, H6, H7, H8⟩
  isplitl [H6 H7 H8 Hr]
  · isplitl [H6 H7 H8]
    · isplitl [H6]; · iexists g6; iapply (Entails.of_eq (scratch_eq c _ g6)); iexact H6
      isplitl [H7]; · iexists g7; iapply (Entails.of_eq (scratch_eq c _ g7)); iexact H7
      iexists g8; iapply (Entails.of_eq (scratch_eq c _ g8)); iexact H8
    iexact Hr
  isplitl [HO]
  · iexists W; isplitr; · ipureintro; exact fun _ _ => Or.inl trivial
    iexact HO
  isplitl [H0]; · iexists X0; isplitr; swap; (· iexact H0); ipureintro; exact h0
  isplitl [H1]; · iexists X1; isplitr; swap; (· iexact H1); ipureintro; exact h1
  isplitl [H2]; · iexists X2; isplitr; swap; (· iexact H2); ipureintro; exact h2
  isplitl [H3]; · iexists X3; isplitr; swap; (· iexact H3); ipureintro; exact h3
  isplitl [H4]; · iexists X4; isplitr; swap; (· iexact H4); ipureintro; exact h4
  iexists _; isplitr; swap
  · iexists _; isplitr; swap; (· iexact H5); ipureintro; rfl
  ipureintro; exact hP X0 X1 X2 X3 X4 f5 f6 _ f8 h0 h1 h2 h3 h4

/-- The body obligation with the output forgotten: nothing is assumed of what it computes. -/
theorem body_forget (c : Dev nD) : BodyObligation (dats m O 0 c) (defs₀ (F := F)) Variants.none () Set.univ forgets0 := fun t => by
  obtain rfl := fin_N0 t
  rw [bigSep_W0, bigSep_W0, defs₀_row]
  refine triple_restated (body_core m O c (fun _ => True) fun _ _ _ _ _ _ _ _ _ _ _ _ _ _ => trivial) rfl .rfl fun _ => ?_
  have h : (iprop(∃ X, ⌜True⌝ ∗ owns (c : Thread nD τ) (win0_5.stage (cfg0.slots t0_0 5)) fullShare X) : sProp 𝕄)
      ⊢ iprop(∃ X, owns (c : Thread nD τ) (win0_5.stage (cfg0.slots t0_0 5)) fullShare X) := by
    iintro ⟨%X, -, H⟩; iexists X; iexact H
  exact sep_mono .rfl (sep_mono .rfl (sep_mono .rfl (sep_mono .rfl (sep_mono .rfl (sep_mono .rfl (sep_mono .rfl h))))))

/-- The body obligation for a body whose output block is known. -/
theorem body_exact (hO : OutIs m O) (c : Dev nD) : BodyObligation (dats m O 0 c) (defs₀ (F := F)) Variants.none () Set.univ := fun t => by
  obtain rfl := fin_N0 t
  rw [bigSep_W0, bigSep_W0, defs₀_row]
  refine triple_restated (body_core m O c (fun X => X = O c) fun X0 X1 X2 X3 X4 f5 f6 f7 f8 h0 h1 h2 h3 h4 =>
    hO c c _ _ _ _ _ _ _ _ _ _ _ _ _ _ _ _ _ _ X0 X1 X2 X3 X4 f5 f6 f7 f8 h0 h1 h2 h3 h4) rfl ?_ fun _ => ?_
  · have h : (iprop(∃ d, owns (c : Thread nD τ) (win0_5.stage (cfg0.slots t0_0 5)) fullShare ((dats m O 0 c).before 5 t0_0 d)) : sProp 𝕄)
        ⊢ iprop(∃ X, owns (c : Thread nD τ) (win0_5.stage (cfg0.slots t0_0 5)) fullShare X) := by
      iintro ⟨%d, H⟩; iexists _; iexact H
    exact sep_mono .rfl (sep_mono .rfl (sep_mono .rfl (sep_mono .rfl (sep_mono .rfl (sep_mono .rfl (sep_mono .rfl h))))))
  have h : (iprop(∃ X, ⌜X = O c⌝ ∗ owns (c : Thread nD τ) (win0_5.stage (cfg0.slots t0_0 5)) fullShare X) : sProp 𝕄)
      ⊢ owns (c : Thread nD τ) (win0_5.stage (cfg0.slots t0_0 5)) fullShare (O c) := by
    iintro ⟨%X, %hX, H⟩; subst hX; iexact H
  exact sep_mono .rfl (sep_mono .rfl (sep_mono .rfl (sep_mono .rfl (sep_mono .rfl (sep_mono .rfl (sep_mono .rfl h))))))

/-! ## The runs -/

variable [∀ e, Nonempty (Elt F e)]

/-- The program is the host operations before, the region, and the host operations after. -/
theorem main_around : Pipeline.HMainK (Ix := Unit) (Name := ℕ) (U := UR sig nD τ) (Lvl := ℕ) cfgs 0 defs₀ Variants.none m (main (F := F))
    (fun c b => V m c b) (fun _ => Pipeline.chain ([hostOps1].map StableHlo.seq)) :=
  Pipeline.hmain_around _ (0 : Fin 1) defs₀ Variants.none m main [hostOps0] [hostOps1] hostOps0_sub hostOps0_fresh main_chain

/-- The host operations after the region touch only buffers they may touch. -/
theorem tail_sub : ∀ ops ∈ [hostOps1 (F := F)], ∀ op ∈ ops, op.bufs ⊆ Pipeline.tailRefs (τ := τ) sig Pipeline.Prefetch.none spec0 := by
  intro ops hops op hop
  rw [List.mem_singleton] at hops; subst hops
  exact Pipeline.sub_tailRefs _ _ op (List.forall_iff_forall_mem.mp hostOps1_sub op hop) fun k => k.elim0
/-- The host operations after the region allocate nothing, each of them. -/
theorem tail_fresh : ∀ ops ∈ [hostOps1 (F := F)], ∀ op ∈ ops, op.fresh = ∅ := by
  intro ops hops op hop
  rw [List.mem_singleton] at hops; subst hops
  exact List.forall_iff_forall_mem.mp hostOps1_fresh op hop
/-- The host operations after the region write only the joined result and the part of the input that goes into it. -/
theorem tail_writes : ∀ ops ∈ [hostOps1 (F := F)], ∀ op ∈ ops, op.writes = {Proc.devRef .tc main_call0_v15} ∨ op.writes = {Proc.devRef .tc main_v0} := by
  intro ops hops op hop
  rw [List.mem_singleton] at hops; subst hops
  rcases List.mem_cons.mp hop with rfl | hop
  · exact .inl rfl
  · rw [List.mem_singleton] at hop; subst hop; exact .inr rfl
/-- The host operations after the region write no array of the region. -/
theorem tail_keep : ∀ ops ∈ [hostOps1 (F := F)], ∀ op ∈ ops, ∀ w, Proc.devRef .tc (Pipeline.arrRef spec0 w) ∉ op.writes := by
  intro ops hops op hop w
  rcases tail_writes ops hops op hop with h | h <;> rw [h, Finset.mem_singleton] <;>
    exact StableHlo.devRef_ne_of_ne (by revert w; decide)
/-- What the host operations after the region write is one of their two results. -/
theorem tail_T : ∀ ops ∈ [hostOps1 (F := F)], ∀ op ∈ ops, ∀ b : Ref sig .tc, Proc.devRef .tc b ∈ op.writes →
    b ∈ ({main_call0_v15, main_v0} : Finset (Ref sig .tc)) := by
  intro ops hops op hop b hb
  rw [Finset.mem_insert, Finset.mem_singleton]
  by_contra hne
  push Not at hne
  rcases tail_writes ops hops op hop with h | h <;> rw [h, Finset.mem_singleton] at hb
  · exact StableHlo.devRef_ne_of_ne hne.1 hb
  · exact StableHlo.devRef_ne_of_ne hne.2 hb

/-- The run with nothing said of the result: the arguments end as they began, and no counter is left raised. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_around_T_forget cfgs (dats m (fun _ _ => Classical.arbitrary _)) (0 : Fin 1) launch0 defs₀ Variants.none forgets0
    {main_call0_v15, main_v0} m ρ main (fun c => (body_forget m _ c).loose) (fun c => (dats m _ 0 c).share_full fun _ => rfl) (fun _ _ => rfl)
    (fun c => StableHlo.after hostOps0 (fun b => m (c, b))) [hostOps1]
    tail_sub tail_fresh tail_keep tail_T (main_around m) (fun c w => A_eq m _ c w) (fun _ _ => rfl) (Q' := _)
    (fun r h => ⟨fun c => ⟨((Pipeline.RDat.FramePostR.arr_in h.1 c 0 rfl)).trans (V_arg m main_arg0 (.inl rfl) c),
      ((h.1 c).2 main_arg1 (Finset.mem_sdiff.mpr ⟨Pipeline.mem_restRefs_of main_arg1 (by decide) (by decide), by decide⟩)).trans (V_arg m main_arg1 (.inr (.inl rfl)) c),
      ((h.1 c).2 main_arg2 (Finset.mem_sdiff.mpr ⟨Pipeline.mem_restRefs_of main_arg2 (by decide) (by decide), by decide⟩)).trans (V_arg m main_arg2 (.inr (.inr rfl)) c)⟩, h.2⟩)

/-- The run with the result named: what the host operations after the region make of the arrays it leaves. -/
theorem run_exact (hO : OutIs m O) : θ_run defs (onTc (τ := τ) (main (F := F))) ⟨m, fun _ => 0, ρ⟩ (fun r => ∀ c : Dev nD,
      r.2.mem ((c.tc : Thread nD τ).loc main_v0) = StableHlo.after hostOps1
        (Pipeline.withArrays spec0 c (StableHlo.after hostOps0 (fun b => m (c, b))) fun w => (dats m O 0 c).arrAt w cfg0.N) (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h.1 c, (h.2.1 c)⟩) <|
  θ_run_and (Pipeline.θ_run_frame_around cfgs (dats m O) (0 : Fin 1) launch0 defs₀ Variants.none
    m ρ main (fun c => (body_exact m O hO c).loose) (fun c => (dats m _ 0 c).share_full fun _ => rfl) (fun _ _ => rfl)
    (fun c => StableHlo.after hostOps0 (fun b => m (c, b))) [hostOps1]
    tail_sub tail_fresh tail_keep (main_around m) (fun c w => A_eq m _ c w) (fun _ _ => rfl) (Q' := fun r => ∀ c : Dev nD,
      r.2.mem ((c.tc : Thread nD τ).loc main_v0) = StableHlo.after hostOps1
        (Pipeline.withArrays spec0 c (StableHlo.after hostOps0 (fun b => m (c, b))) fun w => (dats m O 0 c).arrAt w cfg0.N) (Proc.devRef .tc main_v0))
    (fun r h c => ((h.1 c).2 main_v0 (Pipeline.mem_restRefs_of main_v0 (by decide) (by decide))))) (run_frame m ρ)

end Cert.KernelIdeal.Hand
-- ==== Proof.Select.lean ====
module

public import Idealize.ShloMosaic.Lib.SortPrefix
public import Idealize.ShloMosaic.Lib.SortFacts
public import Mathlib.Data.EReal.Basic

@[expose] public section

noncomputable section

namespace Cert.Spec

open Idealize.ShloMosaic

/-- The positions at which `d` is least. -/
def leastAt (d : Fin 128 → EReal) : Finset (Fin 128) := Finset.univ.filter fun r => ∀ s, d r ≤ d s

/-- The least value is taken somewhere. -/
theorem leastAt_nonempty (d : Fin 128 → EReal) : (leastAt d).Nonempty := by
  obtain ⟨r, -, hr⟩ := Finset.exists_min_image (Finset.univ : Finset (Fin 128)) d ⟨0, Finset.mem_univ _⟩
  exact ⟨r, Finset.mem_filter.mpr ⟨Finset.mem_univ _, fun s => hr s (Finset.mem_univ _)⟩⟩

/-- The first position at which `d` is least. -/
def pick (d : Fin 128 → EReal) : Fin 128 := (leastAt d).min' (leastAt_nonempty d)

/-- The picked value is the least. -/
theorem pick_le (d : Fin 128 → EReal) (s : Fin 128) : d (pick d) ≤ d s :=
  (Finset.mem_filter.mp ((leastAt d).min'_mem (leastAt_nonempty d))).2 s

/-- Before the picked place every value is larger: the pick is the first. -/
theorem pick_lt_of_lt (d : Fin 128 → EReal) (s : Fin 128) (h : s < pick d) : d (pick d) < d s := by
  by_contra hn
  have hs : s ∈ leastAt d := Finset.mem_filter.mpr ⟨Finset.mem_univ _, fun u => (not_lt.mp hn).trans (pick_le d u)⟩
  exact absurd ((leastAt d).min'_le s hs) (not_le.mpr h)

/-- `d` after `n` rounds: every round overwrites the picked position with `⊤`. -/
def masked (d : Fin 128 → EReal) : ℕ → Fin 128 → EReal
  | 0 => d
  | n + 1 => Function.update (masked d n) (pick (masked d n)) ⊤

/-- The position the round `n` picks. -/
def sel (d : Fin 128 → EReal) (n : ℕ) : Fin 128 := pick (masked d n)

/-- A place picked before round `n` holds infinity. -/
theorem masked_of_picked (d : Fin 128 → EReal) {i n : ℕ} (h : i < n) : masked d n (sel d i) = ⊤ := by
  induction n with
  | zero => omega
  | succ n ih =>
    rw [masked]
    by_cases e : sel d i = pick (masked d n)
    · rw [e, Function.update_self]
    · rw [Function.update_of_ne e]
      refine ih (lt_of_le_of_ne (Nat.lt_succ_iff.mp h) ?_)
      rintro rfl
      exact e rfl

/-- A place not picked before round `n` holds its own value. -/
theorem masked_of_not_picked (d : Fin 128 → EReal) {n : ℕ} {r : Fin 128} (h : ∀ i, i < n → sel d i ≠ r) :
    masked d n r = d r := by
  induction n with
  | zero => rfl
  | succ n ih =>
    have hne : r ≠ pick (masked d n) := fun e => h n (Nat.lt_succ_self n) e.symm
    rw [masked, Function.update_of_ne hne]
    exact ih fun i hi => h i (Nat.lt_succ_of_lt hi)

/-- Fewer than 128 picks leave a position over. -/
theorem exists_not_picked (d : Fin 128 → EReal) {n : ℕ} (hn : n < 128) : ∃ r, ∀ i, i < n → sel d i ≠ r := by
  by_contra hc
  have hsub : (Finset.univ : Finset (Fin 128)) ⊆ (Finset.range n).image (sel d) := fun r _ => by
    by_contra hr
    exact hc ⟨r, fun i hi e => hr (Finset.mem_image.mpr ⟨i, Finset.mem_range.mpr hi, e⟩)⟩
  have := (Finset.card_le_card hsub).trans Finset.card_image_le
  simp at this
  omega

section Finite

variable {d : Fin 128 → EReal} (hd : ∀ r, d r < ⊤)
include hd

/-- As long as places remain, the next pick's value is below infinity. -/
theorem masked_sel_lt {n : ℕ} (hn : n < 128) : masked d n (sel d n) < ⊤ := by
  obtain ⟨r, hr⟩ := exists_not_picked d hn
  exact (pick_le (masked d n) r).trans_lt (masked_of_not_picked d hr ▸ hd r)

/-- No place is picked twice. -/
theorem sel_ne {i n : ℕ} (h : i < n) (hn : n < 128) : sel d i ≠ sel d n := fun e =>
  absurd (masked_of_picked d h) (e ▸ (masked_sel_lt hd hn).ne)

/-- The next pick still holds its own value. -/
theorem masked_sel {n : ℕ} (hn : n < 128) : masked d n (sel d n) = d (sel d n) :=
  masked_of_not_picked d fun _ hi => sel_ne hd hi hn

/-- The sixteen picks are different. -/
theorem sel_injective : Function.Injective fun i : Fin 16 => sel d i.val := by
  intro a b hab
  have hab' : sel d a.val = sel d b.val := hab
  have ha := a.isLt
  have hb := b.isLt
  rcases lt_trichotomy a.val b.val with h | h | h
  · exact absurd hab' (sel_ne hd h (hb.trans (by decide)))
  · exact Fin.ext h
  · exact absurd hab'.symm (sel_ne hd h (ha.trans (by decide)))

/-- Against a position not picked before round `n`, the pick is less, or equal and no later. -/
theorem sel_before {n : ℕ} (hn : n < 128) {r : Fin 128} (hr : ∀ i, i < n → sel d i ≠ r) :
    d (sel d n) < d r ∨ (d (sel d n) = d r ∧ sel d n ≤ r) := by
  have hm := masked_of_not_picked d hr
  rcases lt_or_ge r (sel d n) with hlt | hge
  · left
    have := pick_lt_of_lt (masked d n) r hlt
    rwa [hm, show pick (masked d n) = sel d n from rfl, masked_sel hd hn] at this
  · have := pick_le (masked d n) r
    rw [hm, show pick (masked d n) = sel d n from rfl, masked_sel hd hn] at this
    rcases this.lt_or_eq with h | h
    · exact Or.inl h
    · exact Or.inr ⟨h, hge⟩

end Finite

/-- The lesser value first, of equal values the earlier position. -/
def lexBefore (d : Fin 128 → EReal) (k k' : Fin 128) : Bool :=
  decide (d k < d k') || (decide (d k = d k') && decide (k < k'))

/-- A stable sort of ascending positions need not compare positions. -/
theorem stableSort_lex (d : Fin 128 → EReal) (B : Fin 128 → Fin 128 → Bool) (hB : ∀ k k', B k k' = decide (d k < d k')) :
    ∀ l : List (Fin 128), l.Pairwise (· < ·) → stableSort B l = stableSort (lexBefore d) l
  | [], _ => rfl
  | a :: l, h => by
    obtain ⟨ha, hl⟩ := List.pairwise_cons.mp h
    rw [stableSort, stableSort, stableSort_lex d B hB l hl]
    have hins : ∀ m : List (Fin 128), (∀ b ∈ m, a < b) → insertBefore B a m = insertBefore (lexBefore d) a m := by
      intro m
      induction m with
      | nil => exact fun _ => rfl
      | cons b m ih =>
        intro hm
        have hab : ¬ b < a := not_lt.mpr (hm b (by simp)).le
        rw [insertBefore, insertBefore, ih fun x hx => hm x (by simp [hx]), hB]
        simp [lexBefore, hab]
    exact hins _ fun b hb => ha b ((perm_stableSort _ l).mem_iff.mp hb)

/-- Two orders that sort the positions into one list put the same position at every place. -/
theorem sortedFrom_congr {n : ℕ} {B B' : Fin n → Fin n → Bool} (h : sortPositions n B = sortPositions n B') :
    sortedFrom B = sortedFrom B' := by
  funext k
  have hget : ∀ (l l' : List (Fin n)) (_ : l = l') (h : l.length = n) (h' : l'.length = n),
      l.get (k.cast h.symm) = l'.get (k.cast h'.symm) := by
    rintro l _ rfl _ _
    rfl
  exact hget _ _ h (length_sortPositions n B) (length_sortPositions n B')

/-- The first positions of a stable sort by the value are the rounds' picks. -/
theorem sortedFrom_eq_sel {d : Fin 128 → EReal} (hd : ∀ r, d r < ⊤) (B : Fin 128 → Fin 128 → Bool)
    (hB : ∀ k k', B k k' = decide (d k < d k')) (i : Fin 16) :
    sortedFrom B (i.castLE (by decide)) = sel d i.val := by
  classical
  have hsort : sortedFrom B = sortedFrom (lexBefore d) :=
    sortedFrom_congr (stableSort_lex d B hB _ (List.pairwise_lt_finRange 128))
  rw [hsort]
  have hT : StrictTotalBefore (lexBefore d) :=
    StrictTotalBefore.of_key_then_position (fun a b : EReal => decide (a < b)) d (by simp)
      (fun a b c hab hbc => by simp only [decide_eq_true_eq] at *; exact hab.trans hbc)
      (fun a b => by simp only [decide_eq_true_eq]; exact lt_trichotomy a b)
  have hneg : ∀ (n : ℕ) (_ : n < 128) (r : Fin 128), (∀ i, i < n → sel d i ≠ r) → lexBefore d r (sel d n) = false := by
    intro n hn r hr
    rcases sel_before hd hn hr with h | ⟨h, h'⟩
    · simp [lexBefore, h.le, not_lt.mpr h.le, h.ne']
    · simp [lexBefore, h, h']
  generalize lexBefore d = L at hT hneg ⊢
  have hlt : ∀ a : Fin 16, a.val < 128 := fun a => a.isLt.trans (by decide)
  refine hT.sortedFrom_eq_of_prefix (k := 16) (by decide) (fun i => sel d i.val) (sel_injective hd) ?_ ?_ i
  · intro a b hab
    have hab' : a.val < b.val := hab
    exact hneg a.val (hlt a) (sel d b.val) fun j hj => sel_ne hd (hj.trans hab') (hlt b)
  · intro a p hp
    exact hneg a.val (hlt a) p fun j hj => hp ⟨j, hj.trans a.isLt⟩

end Cert.Spec
-- ==== Proof.Spec.lean ====
module

public import proofs.«01_k».proof.Proof.Select
public import Idealize.ShloMosaic.Lib.Pointwise

@[expose] public section

noncomputable section

namespace Cert.Spec

open Idealize.ShloMosaic

/-- One time step of the input: batch, channel, point. -/
abbrev Frame := Fin 4 → Fin 68 → Fin 128 → EReal
/-- A recurrent state: batch, channel, point. -/
abbrev State := Fin 4 → Fin 128 → Fin 128 → EReal

/-- The channel of a frame that holds coordinate `e`. -/
abbrev coord (e : Fin 4) : Fin 68 := e.castLE (by decide)

/-- The squared distance from point `q` of the frame `X` to point `r` of the frame `P`. -/
def dist (X P : Frame) (b : Fin 4) (q r : Fin 128) : EReal :=
  ∑ e : Fin 4, (X b (coord e) q - P b (coord e) r) * (X b (coord e) q - P b (coord e) r)

/-- The `k`-th nearest point of `P` to point `q` of `X`. -/
def nb (X P : Frame) (b : Fin 4) (q : Fin 128) (k : Fin 16) : Fin 128 := sel (dist X P b q) k.val

/-- What the gates read for the neighbour `k` of point `q`: the features, the offset to the neighbour, and the
    neighbour's hidden state. -/
def feat (X P : Frame) (H : State) (b : Fin 4) (q : Fin 128) (k : Fin 16) (c : Fin 200) : EReal :=
  if h : c.val < 68 then X b ⟨c.val, h⟩ q
  else if h' : c.val - 68 < 4 then
    P b (coord ⟨c.val - 68, h'⟩) (nb X P b q k) - X b (coord ⟨c.val - 68, h'⟩) q
  else H b ⟨c.val - 68 - 4, by omega⟩ (nb X P b q k)

/-- Output channel `o` of the linear layer. -/
def gate (W : Fin 512 → Fin 200 → EReal) (β : Fin 512 → EReal) (X P : Frame) (H : State) (b : Fin 4) (o : Fin 512)
    (q : Fin 128) (k : Fin 16) : EReal :=
  (∑ c : Fin 200, feat X P H b q k c * W o c) + β o

/-- The new cell value of channel `d` of point `q` by its neighbour `k`. -/
def cellOf (W : Fin 512 → Fin 200 → EReal) (β : Fin 512 → EReal) (X P : Frame) (H C : State) (b : Fin 4) (d q : Fin 128)
    (k : Fin 16) : EReal :=
  Ideal.logistic (gate W β X P H b ⟨128 + d.val, by omega⟩ q k) * C b d (nb X P b q k)
    + Ideal.logistic (gate W β X P H b ⟨d.val, by omega⟩ q k) * Ideal.tanh (gate W β X P H b ⟨384 + d.val, by omega⟩ q k)

/-- The new hidden value of channel `d` of point `q` by its neighbour `k`. -/
def hiddenOf (W : Fin 512 → Fin 200 → EReal) (β : Fin 512 → EReal) (X P : Frame) (H C : State) (b : Fin 4) (d q : Fin 128)
    (k : Fin 16) : EReal :=
  Ideal.logistic (gate W β X P H b ⟨256 + d.val, by omega⟩ q k) * Ideal.tanh (cellOf W β X P H C b d q k)

/-- One step: the greatest new cell value over the neighbours. -/
def stepC (W : Fin 512 → Fin 200 → EReal) (β : Fin 512 → EReal) (X P : Frame) (H C : State) : State := fun b d q =>
  Finset.univ.fold max ⊥ fun k : Fin 16 => cellOf W β X P H C b d q k

/-- One step: the greatest new hidden value over the neighbours. -/
def stepH (W : Fin 512 → Fin 200 → EReal) (β : Fin 512 → EReal) (X P : Frame) (H C : State) : State := fun b d q =>
  Finset.univ.fold max ⊥ fun k : Fin 16 => hiddenOf W β X P H C b d q k

/-- The hidden and the cell state before step `n`, the frames being `X 0`, `X 1`, …; step 0 looks for neighbours in
    its own frame, step `n + 1` in the frame `n`. -/
def states (W : Fin 512 → Fin 200 → EReal) (β : Fin 512 → EReal) (X : ℕ → Frame) : ℕ → State × State
  | 0 => (fun _ _ _ => 0, fun _ _ _ => 0)
  | n + 1 => (stepH W β (X n) (X (n - 1)) (states W β X n).1 (states W β X n).2,
      stepC W β (X n) (X (n - 1)) (states W β X n).1 (states W β X n).2)

/-- The frame `n` of an input array. -/
def frameAt (x : (⟨4, ![4, 16, 68, 128]⟩ : Shape).Idx → EReal) (n : ℕ) : Frame := fun b c q =>
  x (ix4 b (Fin.ofNat 16 n) c q)

end Cert.Spec
-- ==== Proof.Gates.lean ====
module

public import proofs.«01_k».proof.Proof.Spec
public import Idealize.ShloMosaic.PureOps.Ideal.Laws

@[expose] public section

noncomputable section

namespace Cert.Spec

open Idealize.ShloMosaic

/-- The greater negated root belongs to the lesser number. -/
theorem neg_sqrt_lt_iff {a b : ℝ} (ha : 0 ≤ a) (hb : 0 ≤ b) :
    -Ideal.sqrt (b : EReal) < -Ideal.sqrt (a : EReal) ↔ (a : EReal) < (b : EReal) := by
  have e : ∀ {r : ℝ}, 0 ≤ r → Ideal.sqrt (r : EReal) = (Real.sqrt r : EReal) := fun {r} hr => by
    show (if r < 0 then (⊥ : EReal) else (Real.sqrt r : EReal)) = _
    rw [if_neg (not_lt.mpr hr)]
  rw [e ha, e hb, EReal.neg_lt_neg_iff, EReal.coe_lt_coe_iff, EReal.coe_lt_coe_iff]
  exact Real.sqrt_lt_sqrt_iff ha

/-- Every coordinate of the frame is a real number. -/
def RealCoords (X : Frame) : Prop := ∀ b e q, ∃ r : ℝ, X b (coord e) q = r

/-- The distance between real points is a nonnegative real number. -/
theorem dist_real {X P : Frame} (hX : RealCoords X) (hP : RealCoords P) (b : Fin 4) (q r : Fin 128) :
    ∃ v : ℝ, 0 ≤ v ∧ dist X P b q r = v := by
  choose u hu using hX
  choose w hw using hP
  refine ⟨∑ e : Fin 4, (u b e q - w b e r) * (u b e q - w b e r), Finset.sum_nonneg fun e _ => mul_self_nonneg _, ?_⟩
  unfold dist
  simp only [hu, hw, Fin.sum_univ_four]
  push_cast
  rfl

/-- The distance between real points is below infinity. -/
theorem dist_lt_top {X P : Frame} (hX : RealCoords X) (hP : RealCoords P) (b : Fin 4) (q r : Fin 128) :
    dist X P b q r < ⊤ := by
  obtain ⟨v, -, hv⟩ := dist_real hX hP b q r
  rw [hv]
  exact EReal.coe_lt_top v

/-- For a real number, the sigmoid by the hyperbolic tangent of its half. -/
theorem tanh_half_real (r : ℝ) : 1 / (1 + Real.exp (-r)) = 1 / 2 * Real.tanh (1 / 2 * r) + 1 / 2 := by
  have h1 : Real.exp (1 / 2 * r) ≠ 0 := (Real.exp_pos _).ne'
  have h2 : Real.exp (-r) = Real.exp (-(1 / 2 * r)) * Real.exp (-(1 / 2 * r)) := by
    rw [← Real.exp_add]; ring_nf
  have h3 : Real.exp (-(1 / 2 * r)) = (Real.exp (1 / 2 * r))⁻¹ := Real.exp_neg _
  have hp := Real.exp_pos (1 / 2 * r)
  rw [Real.tanh_eq_sinh_div_cosh, Real.sinh_eq, Real.cosh_eq, h2, h3]
  have h4 : Real.exp (1 / 2 * r) + (Real.exp (1 / 2 * r))⁻¹ ≠ 0 := by positivity
  field_simp
  ring

/-- The logistic function by the hyperbolic tangent of half the argument, the infinities included. -/
theorem logistic_eq_tanh (z : EReal) :
    ((1 / 2 : ℝ) : EReal) * Ideal.tanh (((1 / 2 : ℝ) : EReal) * z) + ((1 / 2 : ℝ) : EReal) = Ideal.logistic z := by
  induction z with
  | bot =>
    have e1 : ((1 / 2 : ℝ) : EReal) * ⊥ = ⊥ := EReal.coe_mul_bot_of_pos (by norm_num)
    rw [e1]
    show ((1 / 2 : ℝ) : EReal) * (-1 : EReal) + _ = Ideal.div 1 (1 + Ideal.exp (-⊥))
    rw [EReal.neg_bot]
    show _ = Ideal.div 1 (1 + ⊤)
    have e2 : (1 : EReal) + ⊤ = ⊤ := by exact_mod_cast EReal.coe_add_top 1
    rw [e2]
    unfold Ideal.div
    rw [if_neg (by simp), EReal.inv_top, mul_zero]
    have : ((1 / 2 : ℝ) : EReal) * ((-1 : ℝ) : EReal) + ((1 / 2 : ℝ) : EReal) = ((0 : ℝ) : EReal) := by
      rw [← EReal.coe_mul, ← EReal.coe_add]; norm_num
    rw [EReal.coe_neg, EReal.coe_one, EReal.coe_zero] at this
    exact this
  | top =>
    have e1 : ((1 / 2 : ℝ) : EReal) * ⊤ = ⊤ := EReal.coe_mul_top_of_pos (by norm_num)
    rw [e1]
    show ((1 / 2 : ℝ) : EReal) * (1 : EReal) + _ = Ideal.div 1 (1 + Ideal.exp (-⊤))
    rw [EReal.neg_top]
    show _ = Ideal.div 1 (1 + 0)
    unfold Ideal.div
    rw [add_zero, if_neg one_ne_zero]
    have : ((1 / 2 : ℝ) : EReal) * ((1 : ℝ) : EReal) + ((1 / 2 : ℝ) : EReal) = ((1 : ℝ) : EReal) * ((1 : ℝ) : EReal)⁻¹ := by
      rw [← EReal.coe_inv, ← EReal.coe_mul, ← EReal.coe_mul, ← EReal.coe_add]; norm_num
    exact_mod_cast this
  | coe r =>
    have e1 : Ideal.tanh (((1 / 2 : ℝ) : EReal) * (r : EReal)) = (Real.tanh (1 / 2 * r) : EReal) := by
      rw [← EReal.coe_mul]; rfl
    rw [e1]
    show _ = Ideal.div 1 (1 + Ideal.exp (-(r : EReal)))
    have e2 : (1 : EReal) + Ideal.exp (-(r : EReal)) = ((1 + Real.exp (-r) : ℝ) : EReal) := by
      rw [← EReal.coe_neg]
      show (1 : EReal) + (Real.exp (-r) : EReal) = _
      push_cast
      rfl
    rw [e2]
    unfold Ideal.div
    have hpos : 0 < 1 + Real.exp (-r) := by positivity
    rw [if_neg (by exact_mod_cast hpos.ne'), ← EReal.coe_inv, one_mul, ← EReal.coe_mul, ← EReal.coe_add, ← tanh_half_real, one_div]

end Cert.Spec
-- ==== Proof.KernelPick.lean ====
module

public import proofs.«01_k».proof.Proof.Gen.KernelIdeal.Loops
public import proofs.«01_k».proof.Proof.Gates
public import Idealize.ShloMosaic.Lib.Pointwise
public import Idealize.ShloMosaic.PureOps.Ideal.Laws

@[expose] public section

/-! One round of the kernel's selection: the least entry of each column is marked, and then masked. -/

set_option maxRecDepth 16384

noncomputable section

namespace Cert.KernelStep

open Cert.KernelIdeal Cert.KernelIdeal.Gen Cert.Spec
open Idealize.ShloMosaic Idealize.ShloMosaic.TcCoe

/-- The mark of a round: one where the row is the least row attaining the column's minimum. -/
def mark (D : FVec Ideal S4x128x128 .f32) : IVec S4x128x128 1 :=
  cmpi .eq (iota .tc S4x128x128 32 [1] iota_S4x128x128_d1_w32)
    (broadcastTo S4x128x128 (shapeCast S4x1x128 (multiReductionI .minsi [1] S4x128
      (select (cmpf .oeq D (broadcastTo S4x128x128 (shapeCast S4x1x128
        (multiReduction .minimumf [1] S4x128 D 0x7F800000#32 reduces_S4x128x128_S4x128 (.inl rfl) rfl)
        shapeCasts_S4x128_S4x1x128) broadcasts_S4x1x128_S4x128x128))
        (iota .tc S4x128x128 32 [1] iota_S4x128x128_d1_w32) (broadcast S4x128x128 128#32))
      2147483647#32 reduces_S4x128x128_S4x128 rfl) shapeCasts_S4x128_S4x1x128) broadcasts_S4x1x128_S4x128x128)

/-- The word of positive infinity. -/
theorem pos_inf : Ideal.ofBits FTy.f32 0x7F800000#32 = (⊤ : EReal) := by
  simp [Ideal.ofBits, Ideal.ieee]

/-- The minimum of a column is its value at the picked row. -/
theorem fold_min_eq (d : Fin 128 → EReal) :
    Finset.univ.fold min (Ideal.ofBits FTy.f32 0x7F800000#32) d = d (pick d) := by
  rw [pos_inf]
  exact le_antisymm ((Finset.fold_min_le _).mpr (Or.inr ⟨_, Finset.mem_univ _, le_rfl⟩))
    ((Finset.le_fold_min _).mpr ⟨le_top, fun s _ => pick_le d s⟩)

/-- The signed minimum of words is any word below all. -/
theorem fold_minsi_eq (f : Fin 128 → BitVec 32) (p : Fin 128) (h0 : (f p).toInt ≤ (2147483647#32).toInt)
    (h : ∀ s, (f p).toInt ≤ (f s).toInt) : Finset.univ.fold IntOp.minsi (2147483647#32) f = f p := by
  have hm : ∀ x y : BitVec 32, (IntOp.minsi x y).toInt = min x.toInt y.toInt := by
    intro x y
    unfold IntOp.minsi
    simp only [BitVec.slt, decide_eq_true_eq]
    split <;> omega
  apply BitVec.eq_of_toInt_eq
  rw [← Finset.fold_hom (op' := min) (m := BitVec.toInt) hm]
  exact le_antisymm ((Finset.fold_min_le _).mpr (Or.inr ⟨p, Finset.mem_univ _, le_rfl⟩))
    ((Finset.le_fold_min _).mpr ⟨h0, fun s _ => h s⟩)

/-- A small index as a word reads as itself. -/
theorem toInt_small {n : ℕ} (h : n ≤ 128) : (BitVec.ofNat 32 n).toInt = n := by
  have e : (BitVec.ofNat 32 n).toNat = n := by
    rw [BitVec.toNat_ofNat]
    omega
  rw [BitVec.toInt_eq_toNat_of_lt (by omega), e]

/-- The mark of a round is one exactly at the picked row. -/
theorem mark_apply (D : FVec Ideal S4x128x128 .f32) (b : Fin 4) (r q : Fin 128) :
    mark D (ix3 b r q) = BitVec.ofBool (decide (r = pick fun s => D (ix3 b s q))) := by
  unfold mark
  pointwise
  rw [fold_min_eq fun s => D (ix3 b s q)]
  rw [fold_minsi_eq _ (pick fun s => D (ix3 b s q))]
  · rw [if_pos rfl]
    unfold IntOp.cmpi
    congr 1
    have e : (BitVec.ofNat 32 r.val = BitVec.ofNat 32 (pick fun s => D (ix3 b s q)).val) ↔ r = pick fun s => D (ix3 b s q) := by
      refine ⟨fun h => ?_, fun h => by rw [← h]⟩
      have h1 := congrArg BitVec.toInt h
      rw [toInt_small r.isLt.le, toInt_small (pick _).isLt.le] at h1
      exact Fin.ext (by omega)
    simp only [beq_eq_decide, e]
  · rw [if_pos rfl, toInt_small (pick _).isLt.le]
    have : (2147483647#32).toInt = 2147483647 := by decide
    omega
  · intro s
    rw [if_pos rfl, toInt_small (pick _).isLt.le]
    by_cases hs : D (ix3 b s q) = D (ix3 b (pick fun s => D (ix3 b s q)) q)
    · rw [if_pos hs, toInt_small s.isLt.le]
      by_contra hlt
      have hlt : s < pick fun s => D (ix3 b s q) := by
        rw [Fin.lt_def]
        omega
      exact absurd hs (ne_of_gt (pick_lt_of_lt (fun s => D (ix3 b s q)) s hlt))
    · rw [if_neg hs]
      have : (128#32).toInt = 128 := by decide
      omega

/-- The table after a round: the picked entries become the named large value. -/
def maskOut (D : FVec Ideal S4x128x128 .f32) (big : Ideal .f32) : FVec Ideal S4x128x128 .f32 :=
  select (mark D) (broadcast S4x128x128 big) D

/-- The round's zero-one matrix. -/
def hot (D : FVec Ideal S4x128x128 .f32) : FVec Ideal S4x128x128 .bf16 :=
  truncf .bf16 (sitofp .f32 (extui 32 (mark D) natLt_1_32)) bitsLt_bf16_f32

/-- The tables of the successive rounds. -/
def table (D : FVec Ideal S4x128x128 .f32) (big : Ideal .f32) : ℕ → FVec Ideal S4x128x128 .f32
  | 0 => D
  | n + 1 => maskOut (table D big n) big

/-- A column of the distances after `n` rounds is the column with the first `n` picks masked. -/
theorem table_apply (D : FVec Ideal S4x128x128 .f32) (b : Fin 4) (q : Fin 128) :
    ∀ n, (fun r => table D (⊤ : EReal) n (ix3 b r q)) = masked (fun r => D (ix3 b r q)) n
  | 0 => rfl
  | n + 1 => by
    have ih := table_apply D b q n
    funext r
    show maskOut (table D (⊤ : EReal) n) (⊤ : EReal) (ix3 b r q)
      = Function.update (masked (fun r => D (ix3 b r q)) n) (pick (masked (fun r => D (ix3 b r q)) n)) ⊤ r
    unfold maskOut
    pointwise
    rw [mark_apply, ih]
    by_cases h : r = pick (masked (fun r => D (ix3 b r q)) n)
    · rw [decide_eq_true h, h, Function.update_self]
      rfl
    · rw [decide_eq_false h, Function.update_of_ne h, ← ih]
      rfl

/-- The zero-one matrix of round `n` has its one at the `n`-th pick. -/
theorem hot_apply (D : FVec Ideal S4x128x128 .f32) (b : Fin 4) (r q : Fin 128) (n : ℕ) :
    hot (table D (⊤ : EReal) n) (ix3 b r q) = if r = sel (fun r => D (ix3 b r q)) n then (1 : EReal) else 0 := by
  unfold hot
  pointwise
  rw [mark_apply, table_apply]
  show ((((BitVec.setWidth 32 (BitVec.ofBool (decide (r = sel (fun r => D (ix3 b r q)) n)))).toInt : ℝ)) : EReal) = _
  by_cases h : r = sel (fun r => D (ix3 b r q)) n
  · rw [decide_eq_true h, if_pos h]
    have : (BitVec.setWidth 32 (BitVec.ofBool true)).toInt = 1 := by decide
    rw [this]
    simp
  · rw [decide_eq_false h, if_neg h]
    have : (BitVec.setWidth 32 (BitVec.ofBool false)).toInt = 0 := by decide
    rw [this]
    simp

end Cert.KernelStep
-- ==== Proof.KernelHot.lean ====
module

public import proofs.«01_k».proof.Proof.KernelPick
public import Idealize.ShloMosaic.Lib.Writes
public import Idealize.ShloMosaic.Lib.WritesUnit

@[expose] public section

/-! The sixteen zero-one matrices of a step, as the kernel stores them. -/

set_option maxRecDepth 16384

noncomputable section

namespace Cert.KernelStep

open Cert.KernelIdeal Cert.KernelIdeal.Gen Cert.Spec
open Idealize.ShloMosaic Idealize.ShloMosaic.TcCoe

/-- A batch's plane lies within the array. -/
theorem plane_fits : ∀ b : Fin 4, S4x128x128.Slices ![b.val, 0, 0] S1x128x128 := by decide

/-- One batch entry of a stack of matrices. -/
def plane (Z : FVec Ideal S4x128x128 .bf16) (b : Fin 4) : FVec Ideal S1x128x128 .bf16 :=
  shapeCast S1x128x128 (shapeCast S128x128 (extractStridedSlice S1x128x128 ![b.val, 0, 0] Z (plane_fits b))
    shapeCasts_S1x128x128_S128x128) shapeCasts_S128x128_S1x128x128

/-- An entry of a batch's plane. -/
theorem plane_apply (Z : FVec Ideal S4x128x128 .bf16) (b : Fin 4) (r q : Fin 128) :
    plane Z b (ix3 0 r q) = Z (ix3 b r q) := by
  unfold plane
  pointwise

/-- The square of round `n` and batch `b` lies within the scratch array. -/
theorem hot_inb (n : Fin 16) (b : Fin 4) : ∀ a, (![b.val, 0, 128 * n.val] : Fin 3 → ℕ) a + S1x128x128.size a ≤ S4x256x2048.size a := by
  revert n b
  decide

/-- The store of round `n` for batch entry `b`. -/
def hotPiece (D : FVec Ideal S4x128x128 .f32) (big : Ideal .f32) (n : Fin 16) (b : Fin 4) :
    View.Piece (Elt Ideal) S4x256x2048 .bf16 :=
  ⟨Rect.unit ![b.val, 0, 128 * n.val] S1x128x128.size (hot_inb n b), plane (hot (table D big n.val)) b⟩

/-- The stores of the first `n` rounds, last first. -/
def hotPieces (D : FVec Ideal S4x128x128 .f32) (big : Ideal .f32) : (n : ℕ) → n ≤ 16 → List (View.Piece (Elt Ideal) S4x256x2048 .bf16)
  | 0, _ => []
  | n + 1, h => hotPiece D big ⟨n, h⟩ 3 :: hotPiece D big ⟨n, h⟩ 2 :: hotPiece D big ⟨n, h⟩ 1 :: hotPiece D big ⟨n, h⟩ 0 ::
      hotPieces D big n (Nat.le_of_succ_le h)

/-- A place of the array of zero-one matrices: batch entry, row, round, query. -/
def at8 (b : Fin 4) (r : Fin 256) (n : Fin 16) (q : Fin 128) : S4x256x2048.Idx :=
  ix3 b r (⟨128 * n.val + q.val, by omega⟩ : Fin 2048)

/-- Row `r` among the first 128 rows. -/
def low (r : Fin 128) : Fin 256 := ⟨r.val, by omega⟩

/-- Row `r` among the last 128 rows. -/
def high (r : Fin 128) : Fin 256 := ⟨128 + r.val, by omega⟩

section

variable (arg8 : Memref sig .tc .vmem S4x256x2048 .bf16) (f : arg8.view.ty.Contents (Elt Ideal))
  (D : FVec Ideal S4x128x128 .f32) (big : Ideal .f32)

/-- An entry of the upper half after one more square is stored: the square's where it lies in it, else what it was. -/
theorem hotPiece_read (n : Fin 16) (b' : Fin 4) (L : List (View.Piece (Elt Ideal) S4x256x2048 .bf16)) (b : Fin 4) (r : Fin 128)
    (m : Fin 16) (q : Fin 128) :
    arg8.view.read (Elt Ideal) (arg8.view.writes (Elt Ideal) f (hotPiece D big n b' :: L)) (at8 b (low r) m q)
      = if n = m ∧ b' = b then hot (table D big m.val) (ix3 b r q)
        else arg8.view.read (Elt Ideal) (arg8.view.writes (Elt Ideal) f L) (at8 b (low r) m q) := by
  by_cases h : n = m ∧ b' = b
  · obtain ⟨rfl, rfl⟩ := h
    rw [if_pos ⟨rfl, rfl⟩]
    refine (View.read_writes_cons_unit_of_mem arg8.view f _ _ L _ (ix3 0 r q) rfl ?_).trans (plane_apply _ _ _ _)
    intro a
    fin_cases a
    · rfl
    · exact (Nat.zero_add _).symm
    · rfl
  · rw [if_neg h]
    by_cases hb : b' = b
    · refine View.read_writes_cons_unit_of_not_mem arg8.view f _ _ L _ rfl 2 ?_
      have hn : n.val ≠ m.val := fun e => h ⟨Fin.ext e, hb⟩
      show 128 * m.val + q.val < 128 * n.val ∨ 128 * n.val + 128 ≤ 128 * m.val + q.val
      omega
    · refine View.read_writes_cons_unit_of_not_mem arg8.view f _ _ L _ rfl 0 ?_
      have hn : b'.val ≠ b.val := fun e => hb (Fin.ext e)
      show b.val < b'.val ∨ b'.val + 1 ≤ b.val
      omega

/-- Storing a square leaves the lower half as it was. -/
theorem hotPiece_read_high (n : Fin 16) (b' : Fin 4) (L : List (View.Piece (Elt Ideal) S4x256x2048 .bf16)) (b : Fin 4) (r : Fin 128)
    (m : Fin 16) (q : Fin 128) :
    arg8.view.read (Elt Ideal) (arg8.view.writes (Elt Ideal) f (hotPiece D big n b' :: L)) (at8 b (high r) m q)
      = arg8.view.read (Elt Ideal) (arg8.view.writes (Elt Ideal) f L) (at8 b (high r) m q) := by
  refine View.read_writes_cons_unit_of_not_mem arg8.view f _ _ L _ rfl 1 (Or.inr ?_)
  show 0 + 128 ≤ 128 + r.val
  omega

/-- The first 128 rows hold the rounds' matrices. -/
theorem hotPieces_read (b : Fin 4) (r : Fin 128) (m : Fin 16) (q : Fin 128) : ∀ (n : ℕ) (h : n ≤ 16), m.val < n →
    arg8.view.read (Elt Ideal) (arg8.view.writes (Elt Ideal) f (hotPieces D big n h)) (at8 b (low r) m q) = hot (table D big m.val) (ix3 b r q)
  | 0, _, hm => absurd hm (Nat.not_lt_zero _)
  | n + 1, h, hm => by
    unfold hotPieces
    rw [hotPiece_read, hotPiece_read, hotPiece_read, hotPiece_read]
    by_cases e : n = m.val
    · have e' : (⟨n, h⟩ : Fin 16) = m := Fin.ext e
      simp only [e', true_and]
      fin_cases b <;> rfl
    · have e' : (⟨n, h⟩ : Fin 16) ≠ m := fun e2 => e (congrArg Fin.val e2)
      simp only [e', false_and, if_false]
      exact hotPieces_read b r m q n _ (by omega)

/-- The last 128 rows stay as they were. -/
theorem hotPieces_read_high (b : Fin 4) (r : Fin 128) (m : Fin 16) (q : Fin 128) : ∀ (n : ℕ) (h : n ≤ 16),
    arg8.view.read (Elt Ideal) (arg8.view.writes (Elt Ideal) f (hotPieces D big n h)) (at8 b (high r) m q) = arg8.view.read (Elt Ideal) f (at8 b (high r) m q)
  | 0, _ => rfl
  | n + 1, h => by
    unfold hotPieces
    rw [hotPiece_read_high, hotPiece_read_high, hotPiece_read_high, hotPiece_read_high]
    exact hotPieces_read_high b r m q n _

end

end Cert.KernelStep
-- ==== Proof.KernelTail.lean ====
module

public import proofs.«01_k».proof.Proof.KernelHot

@[expose] public section

/-! The gates of one batch entry, over all sixteen neighbours at once, and the maximum over the neighbours. -/

set_option maxRecDepth 16384

noncomputable section

namespace Cert.KernelStep

open Cert.KernelIdeal Cert.KernelIdeal.Gen Cert.Spec
open Idealize.ShloMosaic Idealize.ShloMosaic.TcCoe

/-- The column of round `n` and query `q`. -/
def col (n : Fin 16) (q : Fin 128) : Fin 2048 := ⟨128 * n.val + q.val, by omega⟩

/-- All the gathered gate sums of one batch entry. -/
def gathered (lhs : FVec Ideal S640x256 .bf16) (oh : FVec Ideal S256x2048 .bf16) : FVec Ideal S640x2048 .f32 :=
  matmul dot_S640x256_S256x2048_S640x2048_1_0_0_1_n_n none lhs oh (constant S640x2048 .f32 0x00000000#32)

/-- A sigmoid gate, through the hyperbolic tangent of the halved sum. -/
def gateWide (Z : FVec Ideal S128x2048 .f32) : FVec Ideal S128x2048 .f32 :=
  addf (mulf (broadcast S128x2048 (Scalar.ofBits .f32 0x3F000000#32)) (tanh Z)) (broadcast S128x2048 (Scalar.ofBits .f32 0x3F000000#32))

/-- The new cell values for every neighbour. -/
def cellWide (M : FVec Ideal S640x2048 .f32) : FVec Ideal S128x2048 .f32 :=
  addf (mulf (gateWide (extractStridedSlice S128x2048 ![128, 0] M slices_S640x2048_o128_0_S128x2048))
      (extractStridedSlice S128x2048 ![512, 0] M slices_S640x2048_o512_0_S128x2048))
    (mulf (gateWide (extractStridedSlice S128x2048 ![0, 0] M slices_S640x2048_o0_0_S128x2048))
      (tanh (extractStridedSlice S128x2048 ![384, 0] M slices_S640x2048_o384_0_S128x2048)))

/-- The new hidden values for every neighbour. -/
def hiddenWide (M : FVec Ideal S640x2048 .f32) : FVec Ideal S128x2048 .f32 :=
  mulf (gateWide (extractStridedSlice S128x2048 ![256, 0] M slices_S640x2048_o256_0_S128x2048)) (tanh (cellWide M))

/-- The larger of the two halves of 2048 columns. -/
def halve1 (Z : FVec Ideal S128x2048 .f32) : FVec Ideal S128x1024 .f32 :=
  maximumf (extractStridedSlice S128x1024 ![0, 0] Z slices_S128x2048_o0_0_S128x1024)
    (extractStridedSlice S128x1024 ![0, 1024] Z slices_S128x2048_o0_1024_S128x1024)

/-- The larger of the two halves of 1024 columns. -/
def halve2 (Z : FVec Ideal S128x1024 .f32) : FVec Ideal S128x512 .f32 :=
  maximumf (extractStridedSlice S128x512 ![0, 0] Z slices_S128x1024_o0_0_S128x512)
    (extractStridedSlice S128x512 ![0, 512] Z slices_S128x1024_o0_512_S128x512)

/-- The larger of the two halves of 512 columns. -/
def halve3 (Z : FVec Ideal S128x512 .f32) : FVec Ideal S128x256 .f32 :=
  maximumf (extractStridedSlice S128x256 ![0, 0] Z slices_S128x512_o0_0_S128x256)
    (extractStridedSlice S128x256 ![0, 256] Z slices_S128x512_o0_256_S128x256)

/-- The larger of the two halves of 256 columns. -/
def halve4 (Z : FVec Ideal S128x256 .f32) : FVec Ideal S128x128 .f32 :=
  maximumf (extractStridedSlice S128x128 ![0, 0] Z slices_S128x256_o0_0_S128x128)
    (extractStridedSlice S128x128 ![0, 128] Z slices_S128x256_o0_128_S128x128)

/-- The maximum over the sixteen blocks of columns, by four halvings. -/
def largest (Z : FVec Ideal S128x2048 .f32) : FVec Ideal S128x128 .f32 := halve4 (halve3 (halve2 (halve1 Z)))

/-- The maximum of sixteen values, by halvings. -/
theorem fold_sixteen (f : Fin 16 → EReal) :
    max (max (max (max (f 0) (f 8)) (max (f 4) (f 12))) (max (max (f 2) (f 10)) (max (f 6) (f 14))))
      (max (max (max (f 1) (f 9)) (max (f 5) (f 13))) (max (max (f 3) (f 11)) (max (f 7) (f 15))))
      = Finset.univ.fold max (⊥ : EReal) f := by
  apply le_antisymm
  · have hf : ∀ i, f i ≤ Finset.univ.fold max (⊥ : EReal) f := fun i =>
      (Finset.le_fold_max _).mpr (Or.inr ⟨i, Finset.mem_univ _, le_rfl⟩)
    repeat' first | exact hf _ | refine max_le ?_ ?_
  · refine (Finset.fold_max_le _).mpr ⟨bot_le, fun n _ => ?_⟩
    fin_cases n <;> simp [le_max_iff]

/-- After four halvings a column holds the largest of its sixteen. -/
theorem largest_apply (Z : FVec Ideal S128x2048 .f32) (d q : Fin 128) :
    largest Z (ix2 d q) = Finset.univ.fold max (⊥ : EReal) fun n : Fin 16 => Z (ix2 d (col n q)) := by
  unfold largest halve4 halve3 halve2 halve1
  pointwise
  refine Eq.trans ?_ (fold_sixteen fun n => Z (ix2 d (col n q)))
  repeat' first | exact congrArg (fun i => Z (ix2 d i)) (Fin.ext (by simp only [col, Fin.val_ofNat, Fin.isValue]; omega)) | refine congrArg₂ max ?_ ?_

/-- An entry of the product that reads the neighbours. -/
theorem gathered_apply (lhs : FVec Ideal S640x256 .bf16) (oh : FVec Ideal S256x2048 .bf16) (o : Fin 640) (j : Fin 2048) :
    gathered lhs oh (ix2 o j) = ∑ i : Fin 256, lhs (ix2 o i) * oh (ix2 i j) := by
  unfold gathered
  pointwise

/-- The word of one half. -/
theorem half_bits : Ideal.ofBits FTy.f32 0x3F000000#32 = ((1 / 2 : ℝ) : EReal) := by
  simp [Ideal.ofBits, Ideal.ieee]
  rw [← EReal.coe_mul]
  norm_num

/-- An entry of a gate by the hyperbolic tangent. -/
theorem gateWide_apply (Z : FVec Ideal S128x2048 .f32) (d : Fin 128) (j : Fin 2048) :
    gateWide Z (ix2 d j) = ((1 / 2 : ℝ) : EReal) * Ideal.tanh (Z (ix2 d j)) + ((1 / 2 : ℝ) : EReal) := by
  unfold gateWide
  pointwise
  rw [half_bits]

/-- An entry of the new cell states, of the gathered sums. -/
theorem cellWide_apply (M : FVec Ideal S640x2048 .f32) (d : Fin 128) (j : Fin 2048) :
    cellWide M (ix2 d j)
      = (((1 / 2 : ℝ) : EReal) * Ideal.tanh (M (ix2 ⟨128 + d.val, by omega⟩ j)) + ((1 / 2 : ℝ) : EReal)) * M (ix2 ⟨512 + d.val, by omega⟩ j)
        + (((1 / 2 : ℝ) : EReal) * Ideal.tanh (M (ix2 ⟨d.val, by omega⟩ j)) + ((1 / 2 : ℝ) : EReal))
          * Ideal.tanh (M (ix2 ⟨384 + d.val, by omega⟩ j)) := by
  unfold cellWide
  pointwise
  simp only [gateWide_apply]
  pointwise

/-- An entry of the new hidden states, of the gathered sums. -/
theorem hiddenWide_apply (M : FVec Ideal S640x2048 .f32) (d : Fin 128) (j : Fin 2048) :
    hiddenWide M (ix2 d j)
      = (((1 / 2 : ℝ) : EReal) * Ideal.tanh (M (ix2 ⟨256 + d.val, by omega⟩ j)) + ((1 / 2 : ℝ) : EReal)) * Ideal.tanh (cellWide M (ix2 d j)) := by
  unfold hiddenWide
  pointwise
  simp only [gateWide_apply]
  pointwise

/-- A product with the kernel's zero-one columns picks one entry of each half. -/
theorem gathered_pick (lhs : FVec Ideal S640x256 .bf16) (oh : FVec Ideal S256x2048 .bf16) (o : Fin 640) (j : Fin 2048) (p q : Fin 128)
    (hl : ∀ r, oh (ix2 (low r) j) = if r = p then (1 : EReal) else 0) (hh : ∀ r, oh (ix2 (high r) j) = if r = q then (1 : EReal) else 0) :
    gathered lhs oh (ix2 o j) = lhs (ix2 o (low p)) + lhs (ix2 o (high q)) := by
  rw [gathered_apply]
  refine (Fin.sum_univ_add (a := 128) (b := 128) fun i : Fin 256 => lhs (ix2 o i) * oh (ix2 i j)).trans ?_
  refine congrArg₂ (· + ·) ?_ ?_
  · refine (Finset.sum_congr rfl fun r _ => congrArg (lhs (ix2 o (low r)) * ·) (hl r)).trans ?_
    simp
  · refine (Finset.sum_congr rfl fun r _ => congrArg (lhs (ix2 o (high r)) * ·) (hh r)).trans ?_
    simp

end Cert.KernelStep
-- ==== Proof.KernelLoads.lean ====
module

public import proofs.«01_k».proof.Proof.KernelTail

@[expose] public section

/-! What a step of the kernel loads: the step's frame, the previous frame's coordinates, and the squared distances. -/

set_option maxRecDepth 16384

noncomputable section

namespace Cert.KernelStep

open Cert.KernelIdeal Cert.KernelIdeal.Gen Cert.Spec
open Idealize.ShloMosaic Idealize.ShloMosaic.TcCoe

/-- The offsets of the loads of the step's frame. -/
theorem off_now : ∀ k : Fin k0_t1_loop.trips, k0_off1 k = ![0, k.val, 0, 0] ∧ k0_off2 k = ![1, k.val, 0, 0]
    ∧ k0_off3 k = ![2, k.val, 0, 0] ∧ k0_off4 k = ![3, k.val, 0, 0] := by decide +kernel

/-- The offsets of the loads of the previous frame. -/
theorem off_prev : ∀ k : Fin k0_t1_loop.trips, k0_off5 k = ![0, k.val - 1, 0, 0] ∧ k0_off6 k = ![1, k.val - 1, 0, 0]
    ∧ k0_off7 k = ![2, k.val - 1, 0, 0] ∧ k0_off8 k = ![3, k.val - 1, 0, 0] := by decide +kernel

/-- The offsets of the stores of the step's output. -/
theorem off_out : ∀ k : Fin k0_t1_loop.trips, k0_off9 k = ![0, k.val, 0, 0] ∧ k0_off10 k = ![1, k.val, 0, 0]
    ∧ k0_off11 k = ![2, k.val, 0, 0] ∧ k0_off12 k = ![3, k.val, 0, 0] := by decide +kernel

/-- The loop makes sixteen rounds. -/
theorem trips_eq : k0_t1_loop.trips = 16 := by decide +kernel

/-- A load of a rectangle reads the buffer at the rectangle's places. -/
theorem readAt_eq {s : Shape} {e : EltTy} (a : Memref sig .tc .vmem s e) (f : BufTy.Contents (Elt Ideal) a.view.ty)
    {off size : Fin s.rank → ℕ} (inb : ∀ i, off i + size i ≤ s.size i) (j : (Rect.unit off size inb).shape.Idx) (y : s.Idx)
    (hy : ∀ i, (y i).val = off i + (j i).val) :
    View.readAt (Elt Ideal) a.view (Rect.unit off size inb).toLoadRect f j = a.view.read (Elt Ideal) f y := by
  have e : (Rect.unit off size inb).emb j = y := Rect.emb_eq_of_coords _ _ _ fun i => by
    rw [hy i]
    show _ = off i + 1 * (j i).val
    rw [Nat.one_mul]
  rw [← e]
  rfl

/-- An entry of a frame that is loaded with two axes of extent one and reshaped. -/
theorem cast_frame (y : FVec Ideal S1x1x68x128 .f32) (c : Fin 68) (q : Fin 128) :
    shapeCast S68x128 y shapeCasts_S1x1x68x128_S68x128 (ix2 c q) = y (ix4 0 0 c q) := by
  pointwise

/-- An entry of a frame's coordinates that are loaded with two axes of extent one and reshaped. -/
theorem cast_coords (y : FVec Ideal S1x1x4x128 .f32) (e : Fin 4) (q : Fin 128) :
    shapeCast S4x128 y shapeCasts_S1x1x4x128_S4x128 (ix2 e q) = y (ix4 0 0 e q) := by
  pointwise

section

variable {arg0 : Memref sig .tc .vmem S4x16x68x128 .f32} {X : BufTy.Contents (Elt Ideal) arg0.view.ty}
  {x : S4x16x68x128.Idx → EReal} (hX : arg0.view.read (Elt Ideal) X = x)

include hX

/-- The load of a whole frame. -/
theorem load_apply {off : Fin 4 → ℕ} (b : Fin 4) (t : ℕ) (ht : t < 16) (ho : off = ![b.val, t, 0, 0])
    (inb : ∀ a, off a + S1x1x68x128.size a ≤ S4x16x68x128.size a) (c : Fin 68) (q : Fin 128) :
    shapeCast S68x128 (View.readAt (Elt Ideal) arg0.view (Rect.unit (s := S4x16x68x128) off S1x1x68x128.size inb).toLoadRect X
      : S1x1x68x128.Idx → EReal) shapeCasts_S1x1x68x128_S68x128 (ix2 c q) = frameAt x t b c q := by
  subst ho
  rw [← hX]
  refine (cast_frame _ _ _).trans ?_
  refine readAt_eq arg0 X inb _ (ix4 b (Fin.ofNat 16 t) c q) fun i => ?_
  match i with
  | 0 => rfl
  | 1 =>
    show t % 16 = t + 0
    rw [Nat.mod_eq_of_lt ht, Nat.add_zero]
  | 2 =>
    show c.val = 0 + c.val
    rw [Nat.zero_add]
  | 3 =>
    show q.val = 0 + q.val
    rw [Nat.zero_add]

/-- The load of a frame's coordinates. -/
theorem load_coords {off : Fin 4 → ℕ} (b : Fin 4) (t : ℕ) (ht : t < 16) (ho : off = ![b.val, t, 0, 0])
    (inb : ∀ a, off a + S1x1x4x128.size a ≤ S4x16x68x128.size a) (e : Fin 4) (q : Fin 128) :
    shapeCast S4x128 (View.readAt (Elt Ideal) arg0.view (Rect.unit (s := S4x16x68x128) off S1x1x4x128.size inb).toLoadRect X
      : S1x1x4x128.Idx → EReal) shapeCasts_S1x1x4x128_S4x128 (ix2 e q) = frameAt x t b (coord e) q := by
  subst ho
  rw [← hX]
  refine (cast_coords _ _ _).trans ?_
  refine readAt_eq arg0 X inb _ (ix4 b (Fin.ofNat 16 t) (coord e) q) fun i => ?_
  match i with
  | 0 => rfl
  | 1 =>
    show t % 16 = t + 0
    rw [Nat.mod_eq_of_lt ht, Nat.add_zero]
  | 2 =>
    show e.val = 0 + e.val
    rw [Nat.zero_add]
  | 3 =>
    show q.val = 0 + q.val
    rw [Nat.zero_add]

variable (k : Fin k0_t1_loop.trips)

/-- The step's frame of each batch entry. -/
def frames (arg0 : Memref sig .tc .vmem S4x16x68x128 .f32) (X : BufTy.Contents (Elt Ideal) arg0.view.ty) (k : Fin k0_t1_loop.trips)
    (b : Fin 4) : S68x128.Idx → EReal :=
  match b with
  | 0 => trip_k0_t1.sl.v53 arg0 X k
  | 1 => trip_k0_t1.sl.v56 arg0 X k
  | 2 => trip_k0_t1.sl.v59 arg0 X k
  | 3 => trip_k0_t1.sl.v62 arg0 X k

/-- An entry of the frame loaded for batch `b` in round `k`. -/
theorem frames_apply (b : Fin 4) (c : Fin 68) (q : Fin 128) : frames arg0 X k b (ix2 c q) = frameAt x k.val b c q := by
  have hk : k.val < 16 := trips_eq ▸ k.isLt
  obtain ⟨h0, h1, h2, h3⟩ := off_now k
  match b with
  | 0 => exact load_apply hX 0 k.val hk h0 _ c q
  | 1 => exact load_apply hX 1 k.val hk h1 _ c q
  | 2 => exact load_apply hX 2 k.val hk h2 _ c q
  | 3 => exact load_apply hX 3 k.val hk h3 _ c q

/-- The previous frame's coordinates of each batch entry. -/
def prevs (arg0 : Memref sig .tc .vmem S4x16x68x128 .f32) (X : BufTy.Contents (Elt Ideal) arg0.view.ty) (k : Fin k0_t1_loop.trips)
    (b : Fin 4) : S4x128.Idx → EReal :=
  match b with
  | 0 => trip_k0_t1.sl.v74 arg0 X k
  | 1 => trip_k0_t1.sl.v77 arg0 X k
  | 2 => trip_k0_t1.sl.v80 arg0 X k
  | 3 => trip_k0_t1.sl.v83 arg0 X k

/-- An entry of the previous frame's coordinates loaded for batch `b` in round `k`; the first round loads frame 0. -/
theorem prevs_apply (b : Fin 4) (e : Fin 4) (q : Fin 128) : prevs arg0 X k b (ix2 e q) = frameAt x (k.val - 1) b (coord e) q := by
  have hk : k.val - 1 < 16 := by
    have : k.val < 16 := trips_eq ▸ k.isLt
    omega
  obtain ⟨h0, h1, h2, h3⟩ := off_prev k
  match b with
  | 0 => exact load_coords hX 0 _ hk h0 _ e q
  | 1 => exact load_coords hX 1 _ hk h1 _ e q
  | 2 => exact load_coords hX 2 _ hk h2 _ e q
  | 3 => exact load_coords hX 3 _ hk h3 _ e q

/-- The stack of the step's coordinates. -/
theorem now_apply (b e : Fin 4) (q : Fin 128) : trip_k0_t1.sl.v71 arg0 X k (ix3 b e q) = frameAt x k.val b (coord e) q := by
  rw [← frames_apply hX k b (coord e) q]
  have h : trip_k0_t1.sl.v71 arg0 X k = concatenate S4x4x128 0
    [⟨S1x4x128, shapeCast S1x4x128 (extractStridedSlice S4x128 ![0, 0] (frames arg0 X k 0) slices_S68x128_o0_0_S4x128) shapeCasts_S4x128_S1x4x128⟩,
     ⟨S1x4x128, shapeCast S1x4x128 (extractStridedSlice S4x128 ![0, 0] (frames arg0 X k 1) slices_S68x128_o0_0_S4x128) shapeCasts_S4x128_S1x4x128⟩,
     ⟨S1x4x128, shapeCast S1x4x128 (extractStridedSlice S4x128 ![0, 0] (frames arg0 X k 2) slices_S68x128_o0_0_S4x128) shapeCasts_S4x128_S1x4x128⟩,
     ⟨S1x4x128, shapeCast S1x4x128 (extractStridedSlice S4x128 ![0, 0] (frames arg0 X k 3) slices_S68x128_o0_0_S4x128) shapeCasts_S4x128_S1x4x128⟩]
      concatenates_S1x4x128_S1x4x128_S1x4x128_S1x4x128_S4x4x128_d0 := rfl
  rw [h]
  pointwise
  match b with
  | 0 => rfl
  | 1 => rfl
  | 2 => rfl
  | 3 => rfl

/-- The stack of the previous frame's coordinates. -/
theorem prev_apply (b e : Fin 4) (q : Fin 128) : trip_k0_t1.sl.v88 arg0 X k (ix3 b e q) = frameAt x (k.val - 1) b (coord e) q := by
  rw [← prevs_apply hX k b e q]
  have h : trip_k0_t1.sl.v88 arg0 X k = concatenate S4x4x128 0
    [⟨S1x4x128, shapeCast S1x4x128 (prevs arg0 X k 0) shapeCasts_S4x128_S1x4x128⟩,
     ⟨S1x4x128, shapeCast S1x4x128 (prevs arg0 X k 1) shapeCasts_S4x128_S1x4x128⟩,
     ⟨S1x4x128, shapeCast S1x4x128 (prevs arg0 X k 2) shapeCasts_S4x128_S1x4x128⟩,
     ⟨S1x4x128, shapeCast S1x4x128 (prevs arg0 X k 3) shapeCasts_S4x128_S1x4x128⟩]
      concatenates_S1x4x128_S1x4x128_S1x4x128_S1x4x128_S4x4x128_d0 := rfl
  rw [h]
  pointwise
  match b with
  | 0 => rfl
  | 1 => rfl
  | 2 => rfl
  | 3 => rfl

end

/-- A coordinate's plane lies within the array. -/
theorem axis_fits : ∀ e : Fin 4, S4x4x128.Slices ![0, e.val, 0] S4x1x128 := by decide

/-- The squared difference in one coordinate. -/
def diffSq (P Q : FVec Ideal S4x4x128 .f32) (e : Fin 4) : FVec Ideal S4x128x128 .f32 :=
  let d : FVec Ideal S4x128x128 .f32 := subf
    (broadcastTo S4x128x128 (shapeCast S4x128x1 (shapeCast S4x128 (extractStridedSlice S4x1x128 ![0, e.val, 0] P (axis_fits e))
      shapeCasts_S4x1x128_S4x128) shapeCasts_S4x128_S4x128x1) broadcasts_S4x128x1_S4x128x128)
    (broadcastTo S4x128x128 (shapeCast S4x1x128 (shapeCast S4x128 (extractStridedSlice S4x1x128 ![0, e.val, 0] Q (axis_fits e))
      shapeCasts_S4x1x128_S4x128) shapeCasts_S4x128_S4x1x128) broadcasts_S4x1x128_S4x128x128)
  mulf d d

/-- An entry of the squared differences of one coordinate. -/
theorem diffSq_apply (P Q : FVec Ideal S4x4x128 .f32) (e b : Fin 4) (r q : Fin 128) :
    diffSq P Q e (ix3 b r q) = (P (ix3 b e r) - Q (ix3 b e q)) * (P (ix3 b e r) - Q (ix3 b e q)) := by
  unfold diffSq
  pointwise

/-- The kernel's squared distances are the specification's. -/
theorem dist_apply {arg0 : Memref sig .tc .vmem S4x16x68x128 .f32} {X : BufTy.Contents (Elt Ideal) arg0.view.ty}
    {x : S4x16x68x128.Idx → EReal} (hX : arg0.view.read (Elt Ideal) X = x) (hx : ∀ n, RealCoords (frameAt x n))
    (k : Fin k0_t1_loop.trips) (b : Fin 4) (r q : Fin 128) :
    trip_k0_t1.sl.v219 arg0 X k (ix3 b r q) = Spec.dist (frameAt x k.val) (frameAt x (k.val - 1)) b q r := by
  have h : trip_k0_t1.sl.v219 arg0 X k
    = addf (addf (addf (diffSq (trip_k0_t1.sl.v88 arg0 X k) (trip_k0_t1.sl.v71 arg0 X k) 0)
        (diffSq (trip_k0_t1.sl.v88 arg0 X k) (trip_k0_t1.sl.v71 arg0 X k) 1))
        (diffSq (trip_k0_t1.sl.v88 arg0 X k) (trip_k0_t1.sl.v71 arg0 X k) 2))
        (diffSq (trip_k0_t1.sl.v88 arg0 X k) (trip_k0_t1.sl.v71 arg0 X k) 3) := rfl
  rw [h]
  pointwise
  simp only [diffSq_apply, now_apply hX, prev_apply hX]
  unfold Spec.dist
  rw [Fin.sum_univ_four]
  have hd : ∀ e : Fin 4, (frameAt x (k.val - 1) b (coord e) r - frameAt x k.val b (coord e) q)
        * (frameAt x (k.val - 1) b (coord e) r - frameAt x k.val b (coord e) q)
      = (frameAt x k.val b (coord e) q - frameAt x (k.val - 1) b (coord e) r)
        * (frameAt x k.val b (coord e) q - frameAt x (k.val - 1) b (coord e) r) := by
    intro e
    obtain ⟨u, hu⟩ := hx (k.val - 1) b e r
    obtain ⟨w, hw⟩ := hx k.val b e q
    rw [hu, hw]
    norm_cast
    ring
  rw [hd, hd, hd, hd]

end Cert.KernelStep
-- ==== Proof.KernelStores.lean ====
module

public import proofs.«01_k».proof.Proof.KernelLoads

@[expose] public section

/-! What a step of the kernel stores before its gates: the coordinates, the per-neighbour sums and the per-query sums. -/

set_option maxRecDepth 16384

noncomputable section

namespace Cert.KernelStep

open Cert.KernelIdeal Cert.KernelIdeal.Gen Cert.Spec
open Idealize.ShloMosaic Idealize.ShloMosaic.TcCoe

/-- The column of batch entry `b` and point `p`. -/
def col7 (b : Fin 4) (p : Fin 128) : Fin 512 := ⟨128 * b.val + p.val, by omega⟩

/-- A batch's coordinates lie within the array. -/
theorem batch_fits : ∀ b : Fin 4, S4x4x128.Slices ![b.val, 0, 0] S1x4x128 := by decide

/-- One batch entry of a stack of coordinates. -/
def coordsOf (Z : FVec Ideal S4x4x128 .f32) (b : Fin 4) : FVec Ideal S4x128 .f32 :=
  shapeCast S4x128 (extractStridedSlice S1x4x128 ![b.val, 0, 0] Z (batch_fits b)) shapeCasts_S1x4x128_S4x128

/-- An entry of a batch's coordinates. -/
theorem coordsOf_apply (Z : FVec Ideal S4x4x128 .f32) (b e : Fin 4) (q : Fin 128) : coordsOf Z b (ix2 e q) = Z (ix3 b e q) := by
  unfold coordsOf
  pointwise

/-- The same, narrowed for the store. -/
def coordsNarrow (Z : FVec Ideal S4x4x128 .f32) (b : Fin 4) : FVec Ideal S4x128 .bf16 :=
  shapeCast S4x128 (truncf .bf16 (coordsOf Z b) bitsLt_bf16_f32) shapeCasts_S4x128_S4x128

/-- An entry of a batch's coordinates in the narrow format: the same number. -/
theorem coordsNarrow_apply (Z : FVec Ideal S4x4x128 .f32) (b e : Fin 4) (q : Fin 128) : coordsNarrow Z b (ix2 e q) = Z (ix3 b e q) := by
  unfold coordsNarrow
  pointwise
  exact coordsOf_apply Z b e q

section

variable {arg0 : Memref sig .tc .vmem S4x16x68x128 .f32} {X : BufTy.Contents (Elt Ideal) arg0.view.ty}
  {x : S4x16x68x128.Idx → EReal} (hX : arg0.view.read (Elt Ideal) X = x) (k : Fin k0_t1_loop.trips)
  (arg7 : Memref sig .tc .vmem S136x512 .bf16) (f7 : BufTy.Contents (Elt Ideal) arg7.view.ty)

include hX

/-- After the positions are stored, the first four rows hold the previous frame's coordinates. -/
theorem sph_pos (b e : Fin 4) (p : Fin 128) :
    arg7.view.read (Elt Ideal) (arg7.view.writes (Elt Ideal) f7 (trip_k0_t1.sl.HW_arg7_4 arg0 X k)) (ix2 ⟨e.val, by omega⟩ (col7 b p))
      = frameAt x (k.val - 1) b (coord e) p := by
  rw [← prev_apply hX k b e p, ← coordsNarrow_apply (trip_k0_t1.sl.v88 arg0 X k) b e p]
  unfold trip_k0_t1.sl.HW_arg7_4
  match b with
  | 3 =>
    refine View.read_writes_cons_unit_of_mem arg7.view f7 _ _ _ _ (ix2 e p) rfl fun a => ?_
    match a with
    | 0 => exact (Nat.zero_add _).symm
    | 1 => rfl
  | 2 =>
    refine (View.read_writes_cons_unit_of_not_mem arg7.view f7 _ _ _ _ rfl 1 (Or.inl ?_)).trans ?_
    · show 128 * 2 + p.val < 384
      omega
    refine View.read_writes_cons_unit_of_mem arg7.view f7 _ _ _ _ (ix2 e p) rfl fun a => ?_
    match a with
    | 0 => exact (Nat.zero_add _).symm
    | 1 => rfl
  | 1 =>
    refine (View.read_writes_cons_unit_of_not_mem arg7.view f7 _ _ _ _ rfl 1 (Or.inl ?_)).trans ?_
    · show 128 * 1 + p.val < 384
      omega
    refine (View.read_writes_cons_unit_of_not_mem arg7.view f7 _ _ _ _ rfl 1 (Or.inl ?_)).trans ?_
    · show 128 * 1 + p.val < 256
      omega
    refine View.read_writes_cons_unit_of_mem arg7.view f7 _ _ _ _ (ix2 e p) rfl fun a => ?_
    match a with
    | 0 => exact (Nat.zero_add _).symm
    | 1 => rfl
  | 0 =>
    refine (View.read_writes_cons_unit_of_not_mem arg7.view f7 _ _ _ _ rfl 1 (Or.inl ?_)).trans ?_
    · show 128 * 0 + p.val < 384
      omega
    refine (View.read_writes_cons_unit_of_not_mem arg7.view f7 _ _ _ _ rfl 1 (Or.inl ?_)).trans ?_
    · show 128 * 0 + p.val < 256
      omega
    refine (View.read_writes_cons_unit_of_not_mem arg7.view f7 _ _ _ _ rfl 1 (Or.inl ?_)).trans ?_
    · show 128 * 0 + p.val < 128
      omega
    refine View.read_writes_cons_unit_of_mem arg7.view f7 _ _ _ _ (ix2 e p) rfl fun a => ?_
    match a with
    | 0 => exact (Nat.zero_add _).symm
    | 1 => rfl

omit hX in
/-- Storing the positions leaves the rows below the first four as they were. -/
theorem sph_rest (c : Fin 136) (hc : 4 ≤ c.val) (j : Fin 512) :
    arg7.view.read (Elt Ideal) (arg7.view.writes (Elt Ideal) f7 (trip_k0_t1.sl.HW_arg7_4 arg0 X k)) (ix2 c j)
      = arg7.view.read (Elt Ideal) f7 (ix2 c j) := by
  unfold trip_k0_t1.sl.HW_arg7_4
  iterate 4 refine (View.read_writes_cons_unit_of_not_mem arg7.view f7 _ _ _ _ rfl 0 (Or.inr hc)).trans ?_
  rfl

end

/-- A batch's columns lie within the scratch array. -/
theorem sph_fits : ∀ b : Fin 4, ∀ a, (![0, 128 * b.val] : Fin 2 → ℕ) a + S136x128.size a ≤ S136x512.size a := by decide

/-- The product with the neighbours' weights. -/
def pointDot (v5 : FVec Ideal S512x136 .bf16) (z : FVec Ideal S136x128 .bf16) : FVec Ideal S1x512x128 .bf16 :=
  shapeCast S1x512x128 (truncf .bf16 (matmul dot_S512x136_S136x128_S512x128_1_0_0_1_n_n none v5 z
    (constant S512x128 .f32 0x00000000#32)) bitsLt_bf16_f32) shapeCasts_S512x128_S1x512x128

/-- An entry of the product with the neighbours' rows. -/
theorem pointDot_apply (v5 : FVec Ideal S512x136 .bf16) (z : FVec Ideal S136x128 .bf16) (o : Fin 512) (p : Fin 128) :
    pointDot v5 z (ix3 0 o p) = ∑ c : Fin 136, v5 (ix2 o c) * z (ix2 c p) := by
  unfold pointDot
  pointwise

/-- The sums over a neighbour's coordinates and hidden state, of one batch entry. -/
def pointSums (v5 : FVec Ideal S512x136 .bf16) (arg7 : Memref sig .tc .vmem S136x512 .bf16) (g7 : BufTy.Contents (Elt Ideal) arg7.view.ty)
    (b : Fin 4) : FVec Ideal S1x512x128 .bf16 :=
  pointDot v5 (View.readAt (Elt Ideal) arg7.view (Rect.unit (s := S136x512) ![0, 128 * b.val] S136x128.size (sph_fits b)).toLoadRect g7)

/-- An entry of a batch's point sums: the weights by the rows the second scratch array holds. -/
theorem pointSums_apply (v5 : FVec Ideal S512x136 .bf16) (arg7 : Memref sig .tc .vmem S136x512 .bf16)
    (g7 : BufTy.Contents (Elt Ideal) arg7.view.ty) (b : Fin 4) (o : Fin 512) (p : Fin 128) :
    pointSums v5 arg7 g7 b (ix3 0 o p) = ∑ c : Fin 136, v5 (ix2 o c) * arg7.view.read (Elt Ideal) g7 (ix2 c (col7 b p)) := by
  refine (pointDot_apply v5 _ o p).trans (Finset.sum_congr rfl fun c _ => congrArg (v5 (ix2 o c) * ·) ?_)
  refine readAt_eq arg7 g7 (sph_fits b) _ _ fun a => ?_
  match a with
  | 0 => exact (Nat.zero_add _).symm
  | 1 => rfl

/-- The sums over a query's frame, of one batch entry. -/
def querySums (v1 : FVec Ideal S512x68 .f32) (v3 : FVec Ideal S512x4 .f32) (v7 : FVec Ideal S512x128 .f32) (y : FVec Ideal S68x128 .f32)
    (u : FVec Ideal S4x128 .f32) : FVec Ideal S1x512x128 .bf16 :=
  shapeCast S1x512x128 (truncf .bf16 (addf (subf
    (matmul dot_S512x68_S68x128_S512x128_1_0_0_1_n_n none v1 y (constant S512x128 .f32 0x00000000#32))
    (matmul dot_S512x4_S4x128_S512x128_1_0_0_1_n_n none v3 u (constant S512x128 .f32 0x00000000#32))) v7) bitsLt_bf16_f32)
    shapeCasts_S512x128_S1x512x128

/-- An entry of a batch's query sums: features by weights, less coordinates by offset weights, and the bias. -/
theorem querySums_apply (v1 : FVec Ideal S512x68 .f32) (v3 : FVec Ideal S512x4 .f32) (v7 : FVec Ideal S512x128 .f32)
    (y : FVec Ideal S68x128 .f32) (u : FVec Ideal S4x128 .f32) (o : Fin 512) (q : Fin 128) :
    querySums v1 v3 v7 y u (ix3 0 o q)
      = (∑ c : Fin 68, v1 (ix2 o c) * y (ix2 c q)) - (∑ e : Fin 4, v3 (ix2 o e) * u (ix2 e q)) + v7 (ix2 o q) := by
  unfold querySums
  pointwise

end Cert.KernelStep
-- ==== Proof.KernelSlots.lean ====
module

public import proofs.«01_k».proof.Proof.KernelStores

@[expose] public section

/-! Reading the kernel's array of gate sums and cells after its stores. -/

set_option maxRecDepth 16384

noncomputable section

namespace Cert.KernelStep

open Cert.KernelIdeal Cert.KernelIdeal.Gen Cert.Spec
open Idealize.ShloMosaic Idealize.ShloMosaic.TcCoe

/-- The row of gate `o`. -/
def rowGate (o : Fin 512) : Fin 640 := ⟨o.val, by omega⟩

/-- The row of cell feature `d`. -/
def rowCell (d : Fin 128) : Fin 640 := ⟨512 + d.val, by omega⟩

/-- The slot of a batch's point sums lies within the scratch array. -/
theorem sum_fits : ∀ b : Fin 4, ∀ a, (![b.val, 0, 0] : Fin 3 → ℕ) a + S1x512x128.size a ≤ S4x640x256.size a := by decide
/-- The slot of a batch's query sums lies within the scratch array. -/
theorem query_fits : ∀ b : Fin 4, ∀ a, (![b.val, 0, 128] : Fin 3 → ℕ) a + S1x512x128.size a ≤ S4x640x256.size a := by decide
/-- The slot of a batch's cell states lies within the scratch array. -/
theorem cell_fits : ∀ b : Fin 4, ∀ a, (![b.val, 512, 0] : Fin 3 → ℕ) a + S1x128x128.size a ≤ S4x640x256.size a := by decide

/-- A piece stored into the first scratch array. -/
abbrev Piece6 := View.Piece (Elt Ideal) S4x640x256 .bf16

/-- The store of the per-neighbour sums of one batch entry. -/
def sumPiece (w : FVec Ideal S1x512x128 .bf16) (b : Fin 4) : Piece6 := ⟨Rect.unit ![b.val, 0, 0] S1x512x128.size (sum_fits b), w⟩

/-- The store of the per-query sums of one batch entry. -/
def queryPiece (w : FVec Ideal S1x512x128 .bf16) (b : Fin 4) : Piece6 := ⟨Rect.unit ![b.val, 0, 128] S1x512x128.size (query_fits b), w⟩

/-- The store of the new cells of one batch entry. -/
def cellPiece (w : FVec Ideal S1x128x128 .bf16) (b : Fin 4) : Piece6 := ⟨Rect.unit ![b.val, 512, 0] S1x128x128.size (cell_fits b), w⟩

/-- The step's first eight stores, last first. -/
def sumPieces (S A : Fin 4 → FVec Ideal S1x512x128 .bf16) : List Piece6 :=
  [sumPiece (S 3) 3, sumPiece (S 2) 2, sumPiece (S 1) 1, sumPiece (S 0) 0,
    queryPiece (A 3) 3, queryPiece (A 2) 2, queryPiece (A 1) 1, queryPiece (A 0) 0]

section

variable (arg6 : Memref sig .tc .vmem S4x640x256 .bf16) (f : BufTy.Contents (Elt Ideal) arg6.view.ty)

/-- What the array reads after a list of stores. -/
abbrev rd (L : List Piece6) (y : S4x640x256.Idx) : EReal := arg6.view.read (Elt Ideal) (arg6.view.writes (Elt Ideal) f L) y

/-- Different batches lie apart. -/
theorem batch_ne {b b' : Fin 4} (h : b' ≠ b) : b.val < b'.val ∨ b'.val + 1 ≤ b.val := by
  have : b'.val ≠ b.val := fun e => h (Fin.ext e)
  omega

/-- Point sums are read back where they are stored. -/
theorem sum_low (w : FVec Ideal S1x512x128 .bf16) (b' : Fin 4) (L : List Piece6) (b : Fin 4) (o : Fin 512) (p : Fin 128) :
    rd arg6 f (sumPiece w b' :: L) (ix3 b (rowGate o) (low p))
      = if b' = b then w (ix3 0 o p) else rd arg6 f L (ix3 b (rowGate o) (low p)) := by
  by_cases h : b' = b
  · subst h
    rw [if_pos rfl]
    refine View.read_writes_cons_unit_of_mem arg6.view f _ _ L _ (ix3 0 o p) rfl fun a => ?_
    match a with
    | 0 => rfl
    | 1 => exact (Nat.zero_add _).symm
    | 2 => exact (Nat.zero_add _).symm
  · rw [if_neg h]
    exact View.read_writes_cons_unit_of_not_mem arg6.view f _ _ L _ rfl 0 (batch_ne h)

/-- Storing point sums leaves the right half as it was. -/
theorem sum_high (w : FVec Ideal S1x512x128 .bf16) (b' : Fin 4) (L : List Piece6) (b : Fin 4) (r : Fin 640) (q : Fin 128) :
    rd arg6 f (sumPiece w b' :: L) (ix3 b r (high q)) = rd arg6 f L (ix3 b r (high q)) := by
  refine View.read_writes_cons_unit_of_not_mem arg6.view f _ _ L _ rfl 2 (Or.inr ?_)
  show 0 + 128 ≤ 128 + q.val
  omega

/-- Storing point sums leaves the cell rows as they were. -/
theorem sum_cell (w : FVec Ideal S1x512x128 .bf16) (b' : Fin 4) (L : List Piece6) (b : Fin 4) (d : Fin 128) (j : Fin 256) :
    rd arg6 f (sumPiece w b' :: L) (ix3 b (rowCell d) j) = rd arg6 f L (ix3 b (rowCell d) j) := by
  refine View.read_writes_cons_unit_of_not_mem arg6.view f _ _ L _ rfl 1 (Or.inr ?_)
  show 0 + 512 ≤ 512 + d.val
  omega

/-- Query sums are read back where they are stored. -/
theorem query_high (w : FVec Ideal S1x512x128 .bf16) (b' : Fin 4) (L : List Piece6) (b : Fin 4) (o : Fin 512) (q : Fin 128) :
    rd arg6 f (queryPiece w b' :: L) (ix3 b (rowGate o) (high q))
      = if b' = b then w (ix3 0 o q) else rd arg6 f L (ix3 b (rowGate o) (high q)) := by
  by_cases h : b' = b
  · subst h
    rw [if_pos rfl]
    refine View.read_writes_cons_unit_of_mem arg6.view f _ _ L _ (ix3 0 o q) rfl fun a => ?_
    match a with
    | 0 => rfl
    | 1 => exact (Nat.zero_add _).symm
    | 2 => rfl
  · rw [if_neg h]
    exact View.read_writes_cons_unit_of_not_mem arg6.view f _ _ L _ rfl 0 (batch_ne h)

/-- Storing query sums leaves the cell rows as they were. -/
theorem query_cell (w : FVec Ideal S1x512x128 .bf16) (b' : Fin 4) (L : List Piece6) (b : Fin 4) (d : Fin 128) (j : Fin 256) :
    rd arg6 f (queryPiece w b' :: L) (ix3 b (rowCell d) j) = rd arg6 f L (ix3 b (rowCell d) j) := by
  refine View.read_writes_cons_unit_of_not_mem arg6.view f _ _ L _ rfl 1 (Or.inr ?_)
  show 0 + 512 ≤ 512 + d.val
  omega

/-- Storing cell states leaves the right half as it was. -/
theorem cell_high (w : FVec Ideal S1x128x128 .bf16) (b' : Fin 4) (L : List Piece6) (b : Fin 4) (r : Fin 640) (q : Fin 128) :
    rd arg6 f (cellPiece w b' :: L) (ix3 b r (high q)) = rd arg6 f L (ix3 b r (high q)) := by
  refine View.read_writes_cons_unit_of_not_mem arg6.view f _ _ L _ rfl 2 (Or.inr ?_)
  show 0 + 128 ≤ 128 + q.val
  omega

/-- Cell states are read back where they are stored. -/
theorem cell_low (w : FVec Ideal S1x128x128 .bf16) (b' : Fin 4) (L : List Piece6) (b : Fin 4) (d p : Fin 128) :
    rd arg6 f (cellPiece w b' :: L) (ix3 b (rowCell d) (low p))
      = if b' = b then w (ix3 0 d p) else rd arg6 f L (ix3 b (rowCell d) (low p)) := by
  by_cases h : b' = b
  · subst h
    rw [if_pos rfl]
    refine View.read_writes_cons_unit_of_mem arg6.view f _ _ L _ (ix3 0 d p) rfl fun a => ?_
    match a with
    | 0 => rfl
    | 1 => rfl
    | 2 => exact (Nat.zero_add _).symm
  · rw [if_neg h]
    exact View.read_writes_cons_unit_of_not_mem arg6.view f _ _ L _ rfl 0 (batch_ne h)

variable (S A : Fin 4 → FVec Ideal S1x512x128 .bf16)

/-- After all eight stores the left half of the gate rows holds the point sums. -/
theorem sums_low (b : Fin 4) (o : Fin 512) (p : Fin 128) :
    rd arg6 f (sumPieces S A) (ix3 b (rowGate o) (low p)) = S b (ix3 0 o p) := by
  unfold sumPieces
  rw [sum_low, sum_low, sum_low, sum_low]
  match b with
  | 0 => rfl
  | 1 => rfl
  | 2 => rfl
  | 3 => rfl

/-- After all eight stores the right half of the gate rows holds the query sums. -/
theorem sums_high (b : Fin 4) (o : Fin 512) (q : Fin 128) :
    rd arg6 f (sumPieces S A) (ix3 b (rowGate o) (high q)) = A b (ix3 0 o q) := by
  unfold sumPieces
  rw [sum_high, sum_high, sum_high, sum_high, query_high, query_high, query_high, query_high]
  match b with
  | 0 => rfl
  | 1 => rfl
  | 2 => rfl
  | 3 => rfl

/-- After all eight stores the cell rows are as they were. -/
theorem sums_cell (b : Fin 4) (d : Fin 128) (j : Fin 256) :
    rd arg6 f (sumPieces S A) (ix3 b (rowCell d) j) = arg6.view.read (Elt Ideal) f (ix3 b (rowCell d) j) := by
  unfold sumPieces
  rw [sum_cell, sum_cell, sum_cell, sum_cell, query_cell, query_cell, query_cell, query_cell]
  rfl

end

end Cert.KernelStep
-- ==== Proof.GateSum.lean ====
module

public import proofs.«01_k».proof.Proof.Gates

@[expose] public section

/-! The linear layer, split into the part that belongs to a neighbour and the part that belongs to the query. -/

set_option maxRecDepth 16384

noncomputable section

namespace Cert.Spec

open Idealize.ShloMosaic

/-- A sum over the 200 input channels, by features, offsets and hidden state. -/
theorem sum_channels (f : Fin 200 → EReal) :
    ∑ c, f c = (∑ c : Fin 68, f ⟨c.val, by omega⟩) + (∑ e : Fin 4, f ⟨68 + e.val, by omega⟩) + ∑ d : Fin 128, f ⟨72 + d.val, by omega⟩ := by
  refine (Fin.sum_univ_add (a := 72) (b := 128) f).trans (congrArg₂ (· + ·) ?_ rfl)
  exact Fin.sum_univ_add (a := 68) (b := 4) fun i : Fin 72 => f ⟨i.val, by omega⟩

/-- A sum over the kernel's 136 rows of coordinates, zeros and hidden state. -/
theorem sum_rows (f : Fin 136 → EReal) :
    ∑ c, f c = (∑ e : Fin 4, f ⟨e.val, by omega⟩) + (∑ e : Fin 4, f ⟨4 + e.val, by omega⟩) + ∑ d : Fin 128, f ⟨8 + d.val, by omega⟩ := by
  refine (Fin.sum_univ_add (a := 8) (b := 128) f).trans (congrArg₂ (· + ·) ?_ rfl)
  exact Fin.sum_univ_add (a := 4) (b := 4) fun i : Fin 8 => f ⟨i.val, by omega⟩

/-- A nonnegative real factor goes into a sum. -/
theorem scale_sum {n : ℕ} (s : ℝ) (hs : 0 ≤ s) (f : Fin n → EReal) : (s : EReal) * ∑ i, f i = ∑ i, (s : EReal) * f i := by
  have h0 : (0 : EReal) ≤ (s : EReal) := EReal.coe_nonneg.mpr hs
  induction n with
  | zero => simp
  | succ n ih =>
    rw [Fin.sum_univ_succ, Fin.sum_univ_succ, EReal.left_distrib_of_nonneg_of_ne_top h0 (EReal.coe_ne_top s), ih]

/-- A gate's sum in its three parts: the point's own features, the offsets, the neighbour's hidden state. -/
theorem gate_parts (W : Fin 512 → Fin 200 → EReal) (β : Fin 512 → EReal) (X P : Frame) (H : State) (b : Fin 4) (o : Fin 512)
    (q : Fin 128) (k : Fin 16) :
    gate W β X P H b o q k = ((∑ c : Fin 68, X b c q * W o ⟨c.val, by omega⟩)
      + (∑ e : Fin 4, (P b (coord e) (nb X P b q k) - X b (coord e) q) * W o ⟨68 + e.val, by omega⟩)
      + ∑ d : Fin 128, H b d (nb X P b q k) * W o ⟨72 + d.val, by omega⟩) + β o := by
  unfold gate
  rw [sum_channels]
  refine congrArg (· + β o) (congrArg₂ (· + ·) (congrArg₂ (· + ·) ?_ ?_) ?_)
  · refine Finset.sum_congr rfl fun c _ => congrArg (· * _) ?_
    unfold feat
    rw [dif_pos c.isLt]
  · refine Finset.sum_congr rfl fun e _ => congrArg (· * _) ?_
    unfold feat
    rw [dif_neg (by simp), dif_pos (by simp)]
    simp
  · refine Finset.sum_congr rfl fun d _ => congrArg (· * _) ?_
    unfold feat
    rw [dif_neg (by simp; omega), dif_neg (by simp; omega)]
    refine congrArg (fun i => H b i (nb X P b q k)) (Fin.ext ?_)
    show 72 + d.val - 68 - 4 = d.val
    omega

/-- The weights of the offsets are real. -/
def RealOffsets (W : Fin 512 → Fin 200 → EReal) : Prop := ∀ (o : Fin 512) (e : Fin 4), ∃ r : ℝ, W o ⟨68 + e.val, by omega⟩ = r

/-- A weighted sum of real offsets is the difference of the weighted sums. -/
theorem offsets_split (s : ℝ) (u v w : Fin 4 → ℝ) :
    (s : EReal) * ∑ e, ((u e : EReal) - (v e : EReal)) * (w e : EReal)
      = (∑ e, ((s : EReal) * (w e : EReal)) * (u e : EReal)) + -(∑ e, ((s : EReal) * (w e : EReal)) * (v e : EReal)) := by
  simp only [Fin.sum_univ_four]
  norm_cast
  ring

/-- The neighbour's sum and the query's sum make up the scaled linear layer. -/
theorem gate_split (W : Fin 512 → Fin 200 → EReal) (β : Fin 512 → EReal) (X P : Frame) (H : State) (b : Fin 4) (o : Fin 512)
    (q : Fin 128) (k : Fin 16) (s : ℝ) (hs : 0 ≤ s) (hX : RealCoords X) (hP : RealCoords P)
    (hW : ∀ e : Fin 4, ∃ r : ℝ, W o ⟨68 + e.val, by omega⟩ = r)
    (v1 : Fin 68 → EReal) (v3 : Fin 4 → EReal) (v5 g : Fin 136 → EReal) (v7 : EReal)
    (h1 : ∀ c, v1 c = s * W o ⟨c.val, by omega⟩) (h3 : ∀ e, v3 e = s * W o ⟨68 + e.val, by omega⟩)
    (h5a : ∀ e : Fin 4, v5 ⟨e.val, by omega⟩ = s * W o ⟨68 + e.val, by omega⟩) (h5b : ∀ e : Fin 4, v5 ⟨4 + e.val, by omega⟩ = 0)
    (h5c : ∀ d : Fin 128, v5 ⟨8 + d.val, by omega⟩ = s * W o ⟨72 + d.val, by omega⟩) (h7 : v7 = s * β o)
    (hga : ∀ e : Fin 4, g ⟨e.val, by omega⟩ = P b (coord e) (nb X P b q k))
    (hgc : ∀ d : Fin 128, g ⟨8 + d.val, by omega⟩ = H b d (nb X P b q k)) :
    (∑ c, v5 c * g c) + ((∑ c, v1 c * X b c q) - (∑ e, v3 e * X b (coord e) q) + v7) = s * gate W β X P H b o q k := by
  have h0 : (0 : EReal) ≤ (s : EReal) := EReal.coe_nonneg.mpr hs
  have ds : ∀ y z : EReal, (s : EReal) * (y + z) = s * y + s * z := EReal.left_distrib_of_nonneg_of_ne_top h0 (EReal.coe_ne_top s)
  choose w hw using hW
  choose v hv using fun e => hX b e q
  choose u hu using fun e => hP b e (nb X P b q k)
  rw [gate_parts, sum_rows]
  simp only [h1, h3, h5a, h5b, h5c, h7, hga, hgc, zero_mul, Finset.sum_const_zero, add_zero, ds, hw, hv, hu, offsets_split]
  rw [scale_sum s hs, scale_sum s hs, sub_eq_add_neg]
  have e1 : ∀ c : Fin 68, (s : EReal) * (X b c q * W o ⟨c.val, by omega⟩) = s * W o ⟨c.val, by omega⟩ * X b c q := fun c => by
    rw [mul_assoc, mul_comm (X b c q)]
  have e2 : ∀ d : Fin 128, (s : EReal) * (H b d (nb X P b q k) * W o ⟨72 + d.val, by omega⟩)
      = s * W o ⟨72 + d.val, by omega⟩ * H b d (nb X P b q k) := fun d => by
    rw [mul_assoc, mul_comm (H b d _)]
  simp only [e1, e2]
  ac_rfl

end Cert.Spec
-- ==== Proof.KernelTrip.lean ====
module

public import proofs.«01_k».proof.Proof.KernelSlots
public import proofs.«01_k».proof.Proof.GateSum

@[expose] public section

/-! The stores of one step of the kernel's loop, all four batch entries. -/

set_option maxRecDepth 16384

noncomputable section

namespace Cert.KernelStep

open Cert.KernelIdeal Cert.KernelIdeal.Gen Cert.Spec
open Idealize.ShloMosaic Idealize.ShloMosaic.TcCoe

/-- A batch's plane lies within the first scratch array. -/
theorem rows6_fits : ∀ b : Fin 4, ∀ a, (![b.val, 0, 0] : Fin 3 → ℕ) a + S1x640x256.size a ≤ S4x640x256.size a := by decide
/-- A batch's plane lies within the third scratch array. -/
theorem rows8_fits : ∀ b : Fin 4, ∀ a, (![b.val, 0, 0] : Fin 3 → ℕ) a + S1x256x2048.size a ≤ S4x256x2048.size a := by decide

/-- An entry of a plane of the first scratch array, its axis of extent one dropped. -/
theorem cast_rows6 (Z : FVec Ideal S1x640x256 .bf16) (r : Fin 640) (j : Fin 256) :
    shapeCast S640x256 Z shapeCasts_S1x640x256_S640x256 (ix2 r j) = Z (ix3 0 r j) := by
  pointwise

/-- An entry of a plane of the third scratch array, its axis of extent one dropped. -/
theorem cast_rows8 (Z : FVec Ideal S1x256x2048 .bf16) (r : Fin 256) (j : Fin 2048) :
    shapeCast S256x2048 Z shapeCasts_S1x256x2048_S256x2048 (ix2 r j) = Z (ix3 0 r j) := by
  pointwise

/-- The sums and cells of one batch entry. -/
def rows6 (arg6 : Memref sig .tc .vmem S4x640x256 .bf16) (g6 : BufTy.Contents (Elt Ideal) arg6.view.ty) (b : Fin 4) :
    FVec Ideal S640x256 .bf16 :=
  shapeCast S640x256 (View.readAt (Elt Ideal) arg6.view (Rect.unit (s := S4x640x256) ![b.val, 0, 0] S1x640x256.size (rows6_fits b)).toLoadRect g6)
    shapeCasts_S1x640x256_S640x256

/-- The zero-one matrix of one batch entry. -/
def rows8 (arg8 : Memref sig .tc .vmem S4x256x2048 .bf16) (g8 : BufTy.Contents (Elt Ideal) arg8.view.ty) (b : Fin 4) :
    FVec Ideal S256x2048 .bf16 :=
  shapeCast S256x2048 (View.readAt (Elt Ideal) arg8.view (Rect.unit (s := S4x256x2048) ![b.val, 0, 0] S1x256x2048.size (rows8_fits b)).toLoadRect g8)
    shapeCasts_S1x256x2048_S256x2048

/-- An entry of a batch's plane as it is loaded from the first scratch array. -/
theorem rows6_apply (arg6 : Memref sig .tc .vmem S4x640x256 .bf16) (g6 : BufTy.Contents (Elt Ideal) arg6.view.ty) (b : Fin 4)
    (r : Fin 640) (j : Fin 256) : rows6 arg6 g6 b (ix2 r j) = arg6.view.read (Elt Ideal) g6 (ix3 b r j) := by
  refine (cast_rows6 _ _ _).trans (readAt_eq arg6 g6 (rows6_fits b) _ _ fun a => ?_)
  match a with
  | 0 => rfl
  | 1 => exact (Nat.zero_add _).symm
  | 2 => exact (Nat.zero_add _).symm

/-- An entry of a batch's plane as it is loaded from the third scratch array. -/
theorem rows8_apply (arg8 : Memref sig .tc .vmem S4x256x2048 .bf16) (g8 : BufTy.Contents (Elt Ideal) arg8.view.ty) (b : Fin 4)
    (r : Fin 256) (j : Fin 2048) : rows8 arg8 g8 b (ix2 r j) = arg8.view.read (Elt Ideal) g8 (ix3 b r j) := by
  refine (cast_rows8 _ _ _).trans (readAt_eq arg8 g8 (rows8_fits b) _ _ fun a => ?_)
  match a with
  | 0 => rfl
  | 1 => exact (Nat.zero_add _).symm
  | 2 => exact (Nat.zero_add _).symm

/-- The new cells of one batch entry. -/
def cellsAt (arg6 : Memref sig .tc .vmem S4x640x256 .bf16) (arg8 : Memref sig .tc .vmem S4x256x2048 .bf16)
    (g6 : BufTy.Contents (Elt Ideal) arg6.view.ty) (g8 : BufTy.Contents (Elt Ideal) arg8.view.ty) (b : Fin 4) : FVec Ideal S128x128 .f32 :=
  largest (cellWide (gathered (rows6 arg6 g6 b) (rows8 arg8 g8 b)))

/-- The new hidden state of one batch entry. -/
def hiddenAt (arg6 : Memref sig .tc .vmem S4x640x256 .bf16) (arg8 : Memref sig .tc .vmem S4x256x2048 .bf16)
    (g6 : BufTy.Contents (Elt Ideal) arg6.view.ty) (g8 : BufTy.Contents (Elt Ideal) arg8.view.ty) (b : Fin 4) : FVec Ideal S128x128 .f32 :=
  largest (hiddenWide (gathered (rows6 arg6 g6 b) (rows8 arg8 g8 b)))

/-- Cell states in the form they are stored in. -/
def castCell (w : FVec Ideal S128x128 .f32) : FVec Ideal S1x128x128 .bf16 :=
  shapeCast S1x128x128 (truncf .bf16 w bitsLt_bf16_f32) shapeCasts_S128x128_S1x128x128

/-- Hidden states in the form they are stored in. -/
def castHidden (w : FVec Ideal S128x128 .f32) : FVec Ideal S128x128 .bf16 :=
  shapeCast S128x128 (truncf .bf16 w bitsLt_bf16_f32)

/-- Hidden states in the form they are written to the output in. -/
def castOut (w : FVec Ideal S128x128 .f32) : FVec Ideal S1x1x128x128 .f32 :=
  shapeCast S1x1x128x128 w shapeCasts_S128x128_S1x1x128x128

/-- An entry of cell states in the form they are stored in. -/
theorem castCell_apply (w : FVec Ideal S128x128 .f32) (d p : Fin 128) : castCell w (ix3 0 d p) = w (ix2 d p) := by
  unfold castCell
  pointwise

/-- An entry of hidden states in the form they are stored in. -/
theorem castHidden_apply (w : FVec Ideal S128x128 .f32) (d p : Fin 128) : castHidden w (ix2 d p) = w (ix2 d p) := by
  unfold castHidden
  pointwise

/-- An entry of hidden states in the form they are written to the output in. -/
theorem castOut_apply (w : FVec Ideal S128x128 .f32) (d p : Fin 128) : castOut w (ix4 0 0 d p) = w (ix2 d p) := by
  unfold castOut
  pointwise

/-- The stores to the array of sums and cells up to batch entry `n`, last first. -/
def cellPieces (arg6 : Memref sig .tc .vmem S4x640x256 .bf16) (arg8 : Memref sig .tc .vmem S4x256x2048 .bf16)
    (f6 : BufTy.Contents (Elt Ideal) arg6.view.ty) (g8 : BufTy.Contents (Elt Ideal) arg8.view.ty) (L : List Piece6) :
    (n : ℕ) → n ≤ 4 → List Piece6
  | 0, _ => L
  | n + 1, h =>
    cellPiece (castCell (cellsAt arg6 arg8 (arg6.view.writes (Elt Ideal) f6 (cellPieces arg6 arg8 f6 g8 L n (Nat.le_of_succ_le h))) g8 ⟨n, h⟩)) ⟨n, h⟩
      :: cellPieces arg6 arg8 f6 g8 L n (Nat.le_of_succ_le h)

section

variable (arg6 : Memref sig .tc .vmem S4x640x256 .bf16) (arg8 : Memref sig .tc .vmem S4x256x2048 .bf16)
    (f6 : BufTy.Contents (Elt Ideal) arg6.view.ty) (g8 : BufTy.Contents (Elt Ideal) arg8.view.ty) (L : List Piece6)

/-- The cell states of the first `n` batches leave a later batch's plane as it was. -/
theorem cellPieces_later (b : Fin 4) (r : Fin 640) (j : Fin 256) : ∀ (n : ℕ) (h : n ≤ 4), n ≤ b.val →
    rd arg6 f6 (cellPieces arg6 arg8 f6 g8 L n h) (ix3 b r j) = rd arg6 f6 L (ix3 b r j)
  | 0, _, _ => rfl
  | n + 1, h, hb => by
    unfold cellPieces
    exact (View.read_writes_cons_unit_of_not_mem arg6.view f6 _ _ _ _ rfl 0 (Or.inr hb)).trans
      (cellPieces_later b r j n _ (Nat.le_of_succ_le hb))

/-- A batch entry's gathered sums don't see the cells stored for earlier entries. -/
theorem rows6_later (b : Fin 4) :
    rows6 arg6 (arg6.view.writes (Elt Ideal) f6 (cellPieces arg6 arg8 f6 g8 L b.val b.isLt.le)) b
      = rows6 arg6 (arg6.view.writes (Elt Ideal) f6 L) b := by
  funext i
  obtain ⟨r, j, rfl⟩ : ∃ (r : Fin 640) (j : Fin 256), i = ix2 r j := ⟨i 0, i 1, eq_ix2 i⟩
  rw [rows6_apply, rows6_apply]
  exact cellPieces_later arg6 arg8 f6 g8 L b _ _ b.val _ le_rfl

/-- The cell states of the first `n` batches leave the right half as it was. -/
theorem cellPieces_high (b : Fin 4) (r : Fin 640) (q : Fin 128) : ∀ (n : ℕ) (h : n ≤ 4),
    rd arg6 f6 (cellPieces arg6 arg8 f6 g8 L n h) (ix3 b r (high q)) = rd arg6 f6 L (ix3 b r (high q))
  | 0, _ => rfl
  | n + 1, h => by
    unfold cellPieces
    rw [cell_high]
    exact cellPieces_high b r q n _

/-- After the first `n` batches, each of them reads back the cell states of the contents before any was stored. -/
theorem cellPieces_low (b : Fin 4) (d p : Fin 128) : ∀ (n : ℕ) (h : n ≤ 4), b.val < n →
    rd arg6 f6 (cellPieces arg6 arg8 f6 g8 L n h) (ix3 b (rowCell d) (low p))
      = cellsAt arg6 arg8 (arg6.view.writes (Elt Ideal) f6 L) g8 b (ix2 d p)
  | 0, _, hb => absurd hb (Nat.not_lt_zero _)
  | n + 1, h, hb => by
    unfold cellPieces
    rw [cell_low]
    by_cases e : n = b.val
    · subst e
      rw [if_pos rfl, castCell_apply]
      unfold cellsAt
      rw [rows6_later]
    · rw [if_neg fun e' => e (congrArg Fin.val e')]
      exact cellPieces_low b d p n _ (by omega)

end

/-! The lists of the generated trip, in these words. -/

section

variable (c : Dev nD) (arg0 : Memref sig .tc .vmem S4x16x68x128 .f32) (harg0 : arg0.IsWhole) (arg1 : Memref sig .tc .vmem S512x68 .f32)
    (harg1 : arg1.IsWhole) (arg2 : Memref sig .tc .vmem S512x4 .f32) (harg2 : arg2.IsWhole) (arg3 : Memref sig .tc .vmem S512x136 .bf16)
    (harg3 : arg3.IsWhole) (arg4 : Memref sig .tc .vmem S512x128 .f32) (harg4 : arg4.IsWhole) (arg5 : Memref sig .tc .vmem S4x16x128x128 .f32)
    (harg5 : arg5.IsWhole) (arg6 : Memref sig .tc .vmem S4x640x256 .bf16) (harg6 : arg6.IsWhole) (arg7 : Memref sig .tc .vmem S136x512 .bf16)
    (harg7 : arg7.IsWhole) (arg8 : Memref sig .tc .vmem S4x256x2048 .bf16) (harg8 : arg8.IsWhole)
    (v1 : FVec Ideal S512x68 .f32) (v3 : FVec Ideal S512x4 .f32) (v5 : FVec Ideal S512x136 .bf16) (v7 : FVec Ideal S512x128 .f32)
    (big : Ideal .f32) (X : BufTy.Contents (Elt Ideal) arg0.view.ty) (k : Fin k0_t1_loop.trips)
    (f5 : BufTy.Contents (Elt Ideal) arg5.view.ty) (f6 : BufTy.Contents (Elt Ideal) arg6.view.ty)
    (f7 : BufTy.Contents (Elt Ideal) arg7.view.ty) (f8 : BufTy.Contents (Elt Ideal) arg8.view.ty)

/-- The stores of the step to the array of sums and cells, before the cells. -/
def sums6 : List Piece6 :=
  sumPieces (pointSums v5 arg7 (arg7.view.writes (Elt Ideal) f7 (trip_k0_t1.sl.HW_arg7_4 arg0 X k)))
    fun b => querySums v1 v3 v7 (frames arg0 X k b) (coordsOf (trip_k0_t1.sl.v71 arg0 X k) b)

/-- The step's zero-one matrices. -/
def hots : BufTy.Contents (Elt Ideal) arg8.view.ty :=
  arg8.view.writes (Elt Ideal) f8 (hotPieces (trip_k0_t1.sl.v219 arg0 X k) big 16 le_rfl)

/-- The array of sums and cells as the first batch entry finds it. -/
def summed : BufTy.Contents (Elt Ideal) arg6.view.ty :=
  arg6.view.writes (Elt Ideal) f6 (sums6 arg0 arg7 v1 v3 v5 v7 X k f7)

/-- What a round has stored into the first scratch array after `n` batches' cell states. -/
abbrev the6 (n : ℕ) (h : n ≤ 4) : List Piece6 :=
  cellPieces arg6 arg8 f6 (hots arg0 arg8 big X k f8) (sums6 arg0 arg7 v1 v3 v5 v7 X k f7) n h

/-- The hidden states a round computes for batch `b`. -/
abbrev hid (b : Fin 4) : FVec Ideal S128x128 .f32 :=
  hiddenAt arg6 arg8 (arg6.view.writes (Elt Ideal) f6 (the6 arg0 arg6 arg7 arg8 v1 v3 v5 v7 big X k f6 f7 f8 b.val b.isLt.le))
    (hots arg0 arg8 big X k f8) b

/-- What a round stores into the first scratch array. -/
theorem trip6_eq :
    (tripL_k0_t1 (F := Ideal) Variants.none c none arg0 harg0 arg1 harg1 arg2 harg2 arg3 harg3 arg4 harg4 arg5 harg5 arg6 harg6 arg7 harg7
      arg8 harg8 v1 v3 v5 v7 big X k f5 f6 f7 f8).2.1
      = the6 arg0 arg6 arg7 arg8 v1 v3 v5 v7 big X k f6 f7 f8 4 le_rfl := by
  dsimp only [tripL_k0_t1]
  unfold trip_k0_t1
  rfl

/-- What a round stores into the third scratch array. -/
theorem trip8_eq :
    (tripL_k0_t1 (F := Ideal) Variants.none c none arg0 harg0 arg1 harg1 arg2 harg2 arg3 harg3 arg4 harg4 arg5 harg5 arg6 harg6 arg7 harg7
      arg8 harg8 v1 v3 v5 v7 big X k f5 f6 f7 f8).2.2.2
      = hotPieces (trip_k0_t1.sl.v219 arg0 X k) big 16 le_rfl := by
  dsimp only [tripL_k0_t1]
  unfold trip_k0_t1
  rfl

/-- A batch's hidden states lie within the second scratch array. -/
theorem hidden_fits : ∀ b : Fin 4, ∀ a, (![8, 128 * b.val] : Fin 2 → ℕ) a + S128x128.size a ≤ S136x512.size a := by decide

/-- The store of the new hidden state of one batch entry. -/
def hiddenPiece (w : FVec Ideal S128x128 .f32) (b : Fin 4) : View.Piece (Elt Ideal) S136x512 .bf16 :=
  ⟨Rect.unit ![8, 128 * b.val] S128x128.size (hidden_fits b), castHidden w⟩

/-- What a round stores into the second scratch array. -/
theorem trip7_eq :
    (tripL_k0_t1 (F := Ideal) Variants.none c none arg0 harg0 arg1 harg1 arg2 harg2 arg3 harg3 arg4 harg4 arg5 harg5 arg6 harg6 arg7 harg7
      arg8 harg8 v1 v3 v5 v7 big X k f5 f6 f7 f8).2.2.1
      = hiddenPiece (hid arg0 arg6 arg7 arg8 v1 v3 v5 v7 big X k f6 f7 f8 3) 3
        :: hiddenPiece (hid arg0 arg6 arg7 arg8 v1 v3 v5 v7 big X k f6 f7 f8 2) 2
        :: hiddenPiece (hid arg0 arg6 arg7 arg8 v1 v3 v5 v7 big X k f6 f7 f8 1) 1
        :: hiddenPiece (hid arg0 arg6 arg7 arg8 v1 v3 v5 v7 big X k f6 f7 f8 0) 0
        :: trip_k0_t1.sl.HW_arg7_4 arg0 X k := by
  dsimp only [tripL_k0_t1]
  unfold trip_k0_t1
  rfl

/-- A batch's hidden states at a round's time lie within the output. -/
theorem out_fits (k : Fin k0_t1_loop.trips) (b : Fin 4) : ∀ a, (![b.val, k.val, 0, 0] : Fin 4 → ℕ) a + S1x1x128x128.size a ≤ S4x16x128x128.size a := by
  have h : k.val < 16 := lt_of_lt_of_eq k.isLt trips_eq
  intro a
  match a with
  | 0 => exact b.isLt
  | 1 => exact h
  | 2 => exact le_rfl
  | 3 => exact le_rfl

/-- The store of one batch entry's result. -/
def outPiece (k : Fin k0_t1_loop.trips) (w : FVec Ideal S128x128 .f32) (b : Fin 4) : View.Piece (Elt Ideal) S4x16x128x128 .f32 :=
  ⟨Rect.unit ![b.val, k.val, 0, 0] S1x1x128x128.size (out_fits k b), castOut w⟩

/-- A piece of the output by its offset alone. -/
theorem outPiece_eq (w : FVec Ideal S1x1x128x128 .f32) {off off' : Fin 4 → ℕ} (h : off = off')
    (i : ∀ a, off a + S1x1x128x128.size a ≤ S4x16x128x128.size a) (i' : ∀ a, off' a + S1x1x128x128.size a ≤ S4x16x128x128.size a) :
    (⟨Rect.unit off S1x1x128x128.size i, w⟩ : View.Piece (Elt Ideal) S4x16x128x128 .f32) = ⟨Rect.unit off' S1x1x128x128.size i', w⟩ := by
  subst h
  rfl

/-- What a round stores into the output. -/
theorem trip5_eq :
    (tripL_k0_t1 (F := Ideal) Variants.none c none arg0 harg0 arg1 harg1 arg2 harg2 arg3 harg3 arg4 harg4 arg5 harg5 arg6 harg6 arg7 harg7
      arg8 harg8 v1 v3 v5 v7 big X k f5 f6 f7 f8).1
      = [outPiece k (hid arg0 arg6 arg7 arg8 v1 v3 v5 v7 big X k f6 f7 f8 3) 3,
        outPiece k (hid arg0 arg6 arg7 arg8 v1 v3 v5 v7 big X k f6 f7 f8 2) 2,
        outPiece k (hid arg0 arg6 arg7 arg8 v1 v3 v5 v7 big X k f6 f7 f8 1) 1,
        outPiece k (hid arg0 arg6 arg7 arg8 v1 v3 v5 v7 big X k f6 f7 f8 0) 0] := by
  dsimp only [tripL_k0_t1]
  unfold trip_k0_t1
  exact congrArg₂ List.cons (outPiece_eq _ (off_out k).2.2.2 _ _) (congrArg₂ List.cons (outPiece_eq _ (off_out k).2.2.1 _ _)
    (congrArg₂ List.cons (outPiece_eq _ (off_out k).2.1 _ _) (congrArg₂ List.cons (outPiece_eq _ (off_out k).1 _ _) rfl)))

end

end Cert.KernelStep
-- ==== Proof.KernelValue.lean ====
module

public import proofs.«01_k».proof.Proof.KernelTrip

@[expose] public section

/-! The values one step of the kernel's loop computes. -/

set_option maxRecDepth 16384

noncomputable section

namespace Cert.KernelStep

open Cert.KernelIdeal Cert.KernelIdeal.Gen Cert.Spec
open Idealize.ShloMosaic Idealize.ShloMosaic.TcCoe

attribute [local irreducible] sortedFrom

/-- The scale of a gate: the three sigmoid gates are halved. -/
def scale (o : Fin 512) : ℝ := if o.val < 384 then 1 / 2 else 1

/-- A scale is not negative. -/
theorem scale_nonneg (o : Fin 512) : 0 ≤ scale o := by
  unfold scale
  split <;> norm_num

/-- The kernel's weight arguments hold the scaled weights. -/
structure Weights (W : Fin 512 → Fin 200 → EReal) (β : Fin 512 → EReal) (v1 : FVec Ideal S512x68 .f32) (v3 : FVec Ideal S512x4 .f32)
    (v5 : FVec Ideal S512x136 .bf16) (v7 : FVec Ideal S512x128 .f32) : Prop where
  query : ∀ o (c : Fin 68), v1 (ix2 o c) = (scale o : EReal) * W o ⟨c.val, by omega⟩
  offset : ∀ o (e : Fin 4), v3 (ix2 o e) = (scale o : EReal) * W o ⟨68 + e.val, by omega⟩
  point : ∀ o (e : Fin 4), v5 (ix2 o ⟨e.val, by omega⟩) = (scale o : EReal) * W o ⟨68 + e.val, by omega⟩
  pad : ∀ o (e : Fin 4), v5 (ix2 o ⟨4 + e.val, by omega⟩) = 0
  hidden : ∀ o (d : Fin 128), v5 (ix2 o ⟨8 + d.val, by omega⟩) = (scale o : EReal) * W o ⟨72 + d.val, by omega⟩
  bias : ∀ o q, v7 (ix2 o q) = (scale o : EReal) * β o

/-- What the kernel's scratch arrays hold between two steps: the cells and the hidden state, and the identity that
    picks the query's own sums. -/
structure Held (H C : State) (arg6 : Memref sig .tc .vmem S4x640x256 .bf16) (arg7 : Memref sig .tc .vmem S136x512 .bf16)
    (arg8 : Memref sig .tc .vmem S4x256x2048 .bf16) (f6 : BufTy.Contents (Elt Ideal) arg6.view.ty)
    (f7 : BufTy.Contents (Elt Ideal) arg7.view.ty) (f8 : BufTy.Contents (Elt Ideal) arg8.view.ty) : Prop where
  cell : ∀ b d p, arg6.view.read (Elt Ideal) f6 (ix3 b (rowCell d) (low p)) = C b d p
  zero : ∀ b d q, arg6.view.read (Elt Ideal) f6 (ix3 b (rowCell d) (high q)) = (0 : EReal)
  hidden : ∀ b (d : Fin 128) p, arg7.view.read (Elt Ideal) f7 (ix2 (⟨8 + d.val, by omega⟩ : Fin 136) (col7 b p)) = H b d p
  own : ∀ b r n q, arg8.view.read (Elt Ideal) f8 (at8 b (high r) n q) = if r = q then (1 : EReal) else 0

section

variable (W : Fin 512 → Fin 200 → EReal) (β : Fin 512 → EReal) (x : S4x16x68x128.Idx → EReal) (H C : State)
    (arg0 : Memref sig .tc .vmem S4x16x68x128 .f32) (arg6 : Memref sig .tc .vmem S4x640x256 .bf16)
    (arg7 : Memref sig .tc .vmem S136x512 .bf16) (arg8 : Memref sig .tc .vmem S4x256x2048 .bf16)
    (v1 : FVec Ideal S512x68 .f32) (v3 : FVec Ideal S512x4 .f32) (v5 : FVec Ideal S512x136 .bf16) (v7 : FVec Ideal S512x128 .f32)
    (X : BufTy.Contents (Elt Ideal) arg0.view.ty) (k : Fin k0_t1_loop.trips)
    (f6 : BufTy.Contents (Elt Ideal) arg6.view.ty)
    (f7 : BufTy.Contents (Elt Ideal) arg7.view.ty) (f8 : BufTy.Contents (Elt Ideal) arg8.view.ty)
    (hX : arg0.view.read (Elt Ideal) X = x) (hx : ∀ n, RealCoords (frameAt x n))
    (hWr : RealOffsets W)
    (hW : Weights W β v1 v3 v5 v7) (hS : Held H C arg6 arg7 arg8 f6 f7 f8)

include hX hx in
/-- In the upper half, column `n` of point `q` has its one at the `n`-th neighbour. -/
theorem hots_low (b : Fin 4) (r : Fin 128) (n : Fin 16) (q : Fin 128) :
    arg8.view.read (Elt Ideal) (hots arg0 arg8 (⊤ : EReal) X k f8) (at8 b (low r) n q)
      = if r = nb (frameAt x k.val) (frameAt x (k.val - 1)) b q n then (1 : EReal) else 0 := by
  unfold hots
  rw [hotPieces_read _ _ _ _ b r n q 16 le_rfl n.isLt, hot_apply]
  have e : (fun r => trip_k0_t1.sl.v219 arg0 X k (ix3 b r q)) = Spec.dist (frameAt x k.val) (frameAt x (k.val - 1)) b q :=
    funext fun r => dist_apply hX hx k b r q
  rw [e]
  rfl

include hS in
/-- In the lower half, every column of point `q` has its one at `q`. -/
theorem hots_high (b : Fin 4) (r : Fin 128) (n : Fin 16) (q : Fin 128) :
    arg8.view.read (Elt Ideal) (hots arg0 arg8 (⊤ : EReal) X k f8) (at8 b (high r) n q) = if r = q then (1 : EReal) else 0 := by
  unfold hots
  rw [hotPieces_read_high]
  exact hS.own b r n q

include hX hx hS in
/-- Every gathered value is the neighbour's value plus the query's. -/
theorem pick_apply (b : Fin 4) (o : Fin 640) (n : Fin 16) (q : Fin 128) :
    gathered (rows6 arg6 (summed arg0 arg6 arg7 v1 v3 v5 v7 X k f6 f7) b) (rows8 arg8 (hots arg0 arg8 (⊤ : EReal) X k f8) b) (ix2 o (col n q))
      = arg6.view.read (Elt Ideal) (summed arg0 arg6 arg7 v1 v3 v5 v7 X k f6 f7)
          (ix3 b o (low (nb (frameAt x k.val) (frameAt x (k.val - 1)) b q n)))
        + arg6.view.read (Elt Ideal) (summed arg0 arg6 arg7 v1 v3 v5 v7 X k f6 f7) (ix3 b o (high q)) := by
  rw [← rows6_apply, ← rows6_apply]
  refine gathered_pick _ _ o (col n q) _ q (fun r => ?_) fun r => ?_
  · rw [rows8_apply]
    exact hots_low x arg0 arg8 X k f8 hX hx b r n q
  · rw [rows8_apply]
    exact hots_high H C arg0 arg6 arg7 arg8 X k f6 f7 f8 hS b r n q

include hX hx hS hW hWr in
/-- The gathered product holds the scaled gates' sums. -/
theorem gate_apply (b : Fin 4) (o : Fin 512) (n : Fin 16) (q : Fin 128) :
    gathered (rows6 arg6 (summed arg0 arg6 arg7 v1 v3 v5 v7 X k f6 f7) b) (rows8 arg8 (hots arg0 arg8 (⊤ : EReal) X k f8) b)
        (ix2 (rowGate o) (col n q))
      = (scale o : EReal) * gate W β (frameAt x k.val) (frameAt x (k.val - 1)) H b o q n := by
  rw [pick_apply x H C arg0 arg6 arg7 arg8 v1 v3 v5 v7 X k f6 f7 f8 hX hx hS]
  unfold summed sums6
  refine (congrArg₂ (· + ·) ((sums_low arg6 f6 _ _ b o _).trans (pointSums_apply _ _ _ _ _ _))
    ((sums_high arg6 f6 _ _ b o q).trans (querySums_apply _ _ _ _ _ _ _))).trans ?_
  simp only [frames_apply hX, coordsOf_apply, now_apply hX]
  refine gate_split W β _ _ H b o q n (scale o) (scale_nonneg o) (hx _) (hx _) (hWr o) (fun c => v1 (ix2 o c)) (fun e => v3 (ix2 o e))
    (fun c => v5 (ix2 o c)) _ _ (hW.query o) (hW.offset o) (hW.point o) (hW.pad o) (hW.hidden o) (hW.bias o q) (fun e => ?_) fun d => ?_
  · exact sph_pos hX k arg7 f7 b e _
  · exact (sph_rest k arg7 f7 _ (by show 4 ≤ 8 + d.val; omega) _).trans (hS.hidden b d _)

include hX hx hS in
/-- The gathered product holds the neighbours' cell states. -/
theorem kept_apply (b : Fin 4) (d : Fin 128) (n : Fin 16) (q : Fin 128) :
    gathered (rows6 arg6 (summed arg0 arg6 arg7 v1 v3 v5 v7 X k f6 f7) b) (rows8 arg8 (hots arg0 arg8 (⊤ : EReal) X k f8) b)
        (ix2 (rowCell d) (col n q))
      = C b d (nb (frameAt x k.val) (frameAt x (k.val - 1)) b q n) := by
  rw [pick_apply x H C arg0 arg6 arg7 arg8 v1 v3 v5 v7 X k f6 f7 f8 hX hx hS]
  unfold summed sums6
  refine (congrArg₂ (· + ·) ((sums_cell arg6 f6 _ _ b d _).trans (hS.cell b d _)) ((sums_cell arg6 f6 _ _ b d _).trans (hS.zero b d q))).trans ?_
  exact add_zero _

include hX hx hS hW hWr in
/-- The round's new cell states, neighbour by neighbour, are the step's. -/
theorem cellWide_value (b : Fin 4) (d : Fin 128) (n : Fin 16) (q : Fin 128) :
    cellWide (gathered (rows6 arg6 (summed arg0 arg6 arg7 v1 v3 v5 v7 X k f6 f7) b) (rows8 arg8 (hots arg0 arg8 (⊤ : EReal) X k f8) b))
        (ix2 d (col n q))
      = cellOf W β (frameAt x k.val) (frameAt x (k.val - 1)) H C b d q n := by
  have g := gate_apply W β x H C arg0 arg6 arg7 arg8 v1 v3 v5 v7 X k f6 f7 f8 hX hx hWr hW hS b
  have s1 : scale ⟨128 + d.val, by omega⟩ = 1 / 2 := if_pos (by show 128 + d.val < 384; omega)
  have s2 : scale ⟨d.val, by omega⟩ = 1 / 2 := if_pos (by show d.val < 384; omega)
  have s3 : scale ⟨384 + d.val, by omega⟩ = 1 := if_neg (by show ¬ 384 + d.val < 384; omega)
  have g1 := g ⟨128 + d.val, by omega⟩ n q
  have g2 := g ⟨d.val, by omega⟩ n q
  have g3 := g ⟨384 + d.val, by omega⟩ n q
  rw [s1] at g1
  rw [s2] at g2
  rw [s3, EReal.coe_one, one_mul] at g3
  have g4 := kept_apply x H C arg0 arg6 arg7 arg8 v1 v3 v5 v7 X k f6 f7 f8 hX hx hS b d n q
  rw [cellWide_apply]
  unfold cellOf
  rw [← logistic_eq_tanh, ← logistic_eq_tanh, ← g1, ← g2, ← g3, ← g4]
  rfl

include hX hx hS hW hWr in
/-- The round's new hidden states, neighbour by neighbour, are the step's. -/
theorem hiddenWide_value (b : Fin 4) (d : Fin 128) (n : Fin 16) (q : Fin 128) :
    hiddenWide (gathered (rows6 arg6 (summed arg0 arg6 arg7 v1 v3 v5 v7 X k f6 f7) b) (rows8 arg8 (hots arg0 arg8 (⊤ : EReal) X k f8) b))
        (ix2 d (col n q))
      = hiddenOf W β (frameAt x k.val) (frameAt x (k.val - 1)) H C b d q n := by
  have s1 : scale ⟨256 + d.val, by omega⟩ = 1 / 2 := if_pos (by show 256 + d.val < 384; omega)
  have g1 := gate_apply W β x H C arg0 arg6 arg7 arg8 v1 v3 v5 v7 X k f6 f7 f8 hX hx hWr hW hS b ⟨256 + d.val, by omega⟩ n q
  rw [s1] at g1
  rw [hiddenWide_apply, cellWide_value W β x H C arg0 arg6 arg7 arg8 v1 v3 v5 v7 X k f6 f7 f8 hX hx hWr hW hS]
  unfold hiddenOf
  rw [← logistic_eq_tanh, ← g1]
  rfl

include hX hx hS hW hWr in
/-- The step's new cells. -/
theorem cells_value (b : Fin 4) (d q : Fin 128) :
    cellsAt arg6 arg8 (summed arg0 arg6 arg7 v1 v3 v5 v7 X k f6 f7) (hots arg0 arg8 (⊤ : EReal) X k f8) b (ix2 d q)
      = stepC W β (frameAt x k.val) (frameAt x (k.val - 1)) H C b d q := by
  unfold cellsAt stepC
  rw [largest_apply]
  exact congrArg (Finset.univ.fold max ⊥) (funext fun n =>
    cellWide_value W β x H C arg0 arg6 arg7 arg8 v1 v3 v5 v7 X k f6 f7 f8 hX hx hWr hW hS b d n q)

include hX hx hS hW hWr in
/-- The step's new hidden state. -/
theorem hid_value (b : Fin 4) (d q : Fin 128) :
    hid arg0 arg6 arg7 arg8 v1 v3 v5 v7 (⊤ : EReal) X k f6 f7 f8 b (ix2 d q)
      = stepH W β (frameAt x k.val) (frameAt x (k.val - 1)) H C b d q := by
  unfold hid hiddenAt the6
  rw [rows6_later]
  unfold stepH
  rw [largest_apply]
  exact congrArg (Finset.univ.fold max ⊥) (funext fun n =>
    hiddenWide_value W β x H C arg0 arg6 arg7 arg8 v1 v3 v5 v7 X k f6 f7 f8 hX hx hWr hW hS b d n q)

end

end Cert.KernelStep
-- ==== Proof.KernelLoop.lean ====
module

public import proofs.«01_k».proof.Proof.KernelValue

@[expose] public section

/-! One step of the kernel's loop keeps the scratch arrays at the specified state, and the sixteen steps leave the
    specified hidden states in the output. -/

set_option maxRecDepth 16384

noncomputable section

namespace Cert.KernelStep

open Cert.KernelIdeal Cert.KernelIdeal.Gen Cert.Spec
open Idealize.ShloMosaic Idealize.ShloMosaic.TcCoe

attribute [local irreducible] sortedFrom

/-- Columns of different batches lie apart. -/
theorem col_ne {b b' : Fin 4} (h : b' ≠ b) (p : Fin 128) : 128 * b.val + p.val < 128 * b'.val ∨ 128 * b'.val + 128 ≤ 128 * b.val + p.val := by
  have : b'.val ≠ b.val := fun e => h (Fin.ext e)
  omega

/-- A hidden state after one more batch's is stored: the new one in its batch's columns, else what it was. -/
theorem hiddenPiece_read (arg7 : Memref sig .tc .vmem S136x512 .bf16) (f : BufTy.Contents (Elt Ideal) arg7.view.ty)
    (w : FVec Ideal S128x128 .f32) (b' : Fin 4) (L : List (View.Piece (Elt Ideal) S136x512 .bf16)) (b : Fin 4) (d p : Fin 128) :
    arg7.view.read (Elt Ideal) (arg7.view.writes (Elt Ideal) f (hiddenPiece w b' :: L)) (ix2 (⟨8 + d.val, by omega⟩ : Fin 136) (col7 b p))
      = if b' = b then w (ix2 d p)
        else arg7.view.read (Elt Ideal) (arg7.view.writes (Elt Ideal) f L) (ix2 (⟨8 + d.val, by omega⟩ : Fin 136) (col7 b p)) := by
  by_cases h : b' = b
  · subst h
    rw [if_pos rfl, ← castHidden_apply w d p]
    refine View.read_writes_cons_unit_of_mem arg7.view f _ _ L _ (ix2 d p) rfl fun a => ?_
    match a with
    | 0 => rfl
    | 1 => rfl
  · rw [if_neg h]
    exact View.read_writes_cons_unit_of_not_mem arg7.view f _ _ L _ rfl 1 (col_ne h p)

/-- An entry of the output after one more batch's is stored: the new one at its batch and time, else what it was. -/
theorem outPiece_read (arg5 : Memref sig .tc .vmem S4x16x128x128 .f32) (f : BufTy.Contents (Elt Ideal) arg5.view.ty)
    (k : Fin k0_t1_loop.trips) (w : FVec Ideal S128x128 .f32) (b' : Fin 4) (L : List (View.Piece (Elt Ideal) S4x16x128x128 .f32))
    (b : Fin 4) (t : Fin 16) (d p : Fin 128) :
    arg5.view.read (Elt Ideal) (arg5.view.writes (Elt Ideal) f (outPiece k w b' :: L)) (ix4 b t d p)
      = if b' = b ∧ t.val = k.val then w (ix2 d p) else arg5.view.read (Elt Ideal) (arg5.view.writes (Elt Ideal) f L) (ix4 b t d p) := by
  by_cases h : b' = b
  · by_cases h' : t.val = k.val
    · subst h
      rw [if_pos ⟨rfl, h'⟩, ← castOut_apply w d p]
      refine View.read_writes_cons_unit_of_mem arg5.view f _ _ L _ (ix4 0 0 d p) rfl fun a => ?_
      match a with
      | 0 => rfl
      | 1 => exact h'
      | 2 => exact (Nat.zero_add _).symm
      | 3 => exact (Nat.zero_add _).symm
    · rw [if_neg fun e => h' e.2]
      refine View.read_writes_cons_unit_of_not_mem arg5.view f _ _ L _ rfl 1 ?_
      show t.val < k.val ∨ k.val + 1 ≤ t.val
      omega
  · rw [if_neg fun e => h e.1]
    exact View.read_writes_cons_unit_of_not_mem arg5.view f _ _ L _ rfl 0 (batch_ne h)

section

variable (W : Fin 512 → Fin 200 → EReal) (β : Fin 512 → EReal) (x : S4x16x68x128.Idx → EReal)
    (c : Dev nD) (arg0 : Memref sig .tc .vmem S4x16x68x128 .f32) (harg0 : arg0.IsWhole) (arg1 : Memref sig .tc .vmem S512x68 .f32)
    (harg1 : arg1.IsWhole) (arg2 : Memref sig .tc .vmem S512x4 .f32) (harg2 : arg2.IsWhole) (arg3 : Memref sig .tc .vmem S512x136 .bf16)
    (harg3 : arg3.IsWhole) (arg4 : Memref sig .tc .vmem S512x128 .f32) (harg4 : arg4.IsWhole) (arg5 : Memref sig .tc .vmem S4x16x128x128 .f32)
    (harg5 : arg5.IsWhole) (arg6 : Memref sig .tc .vmem S4x640x256 .bf16) (harg6 : arg6.IsWhole) (arg7 : Memref sig .tc .vmem S136x512 .bf16)
    (harg7 : arg7.IsWhole) (arg8 : Memref sig .tc .vmem S4x256x2048 .bf16) (harg8 : arg8.IsWhole)
    (v1 : FVec Ideal S512x68 .f32) (v3 : FVec Ideal S512x4 .f32) (v5 : FVec Ideal S512x136 .bf16) (v7 : FVec Ideal S512x128 .f32)
    (X : BufTy.Contents (Elt Ideal) arg0.view.ty) (f5 : BufTy.Contents (Elt Ideal) arg5.view.ty)
    (f6 : BufTy.Contents (Elt Ideal) arg6.view.ty) (f7 : BufTy.Contents (Elt Ideal) arg7.view.ty)
    (f8 : BufTy.Contents (Elt Ideal) arg8.view.ty)

/-- The stores of step `k`. -/
abbrev stepPieces (k : Fin k0_t1_loop.trips) (f5 : BufTy.Contents (Elt Ideal) arg5.view.ty) (f6 : BufTy.Contents (Elt Ideal) arg6.view.ty)
    (f7 : BufTy.Contents (Elt Ideal) arg7.view.ty) (f8 : BufTy.Contents (Elt Ideal) arg8.view.ty) :=
  tripL_k0_t1 (F := Ideal) Variants.none c none arg0 harg0 arg1 harg1 arg2 harg2 arg3 harg3 arg4 harg4 arg5 harg5 arg6 harg6 arg7 harg7
      arg8 harg8 v1 v3 v5 v7 (⊤ : EReal) X k f5 f6 f7 f8

/-- The stores of the first `n` steps. -/
abbrev runPieces (n : ℕ) :=
  pb_k0_t1 (F := Ideal) Variants.none c none arg0 harg0 arg1 harg1 arg2 harg2 arg3 harg3 arg4 harg4 arg5 harg5 arg6 harg6 arg7 harg7
      arg8 harg8 v1 v3 v5 v7 (⊤ : EReal) X f5 f6 f7 f8 n

variable (hX : arg0.view.read (Elt Ideal) X = x) (hx : ∀ n, RealCoords (frameAt x n))
    (hWr : RealOffsets W) (hW : Weights W β v1 v3 v5 v7)

include hX hx hWr hW in
/-- A step takes the scratch arrays from one state to the next. -/
theorem step_held (k : Fin k0_t1_loop.trips) (H C : State) (hS : Held H C arg6 arg7 arg8 f6 f7 f8) :
    let L := stepPieces c arg0 harg0 arg1 harg1 arg2 harg2 arg3 harg3 arg4 harg4 arg5 harg5 arg6 harg6 arg7 harg7 arg8 harg8 v1 v3 v5 v7 X k f5 f6 f7 f8
    Held (stepH W β (frameAt x k.val) (frameAt x (k.val - 1)) H C) (stepC W β (frameAt x k.val) (frameAt x (k.val - 1)) H C) arg6 arg7 arg8
      (arg6.view.writes (Elt Ideal) f6 L.2.1) (arg7.view.writes (Elt Ideal) f7 L.2.2.1) (arg8.view.writes (Elt Ideal) f8 L.2.2.2) := by
  intro L
  have hv := hid_value W β x H C arg0 arg6 arg7 arg8 v1 v3 v5 v7 X k f6 f7 f8 hX hx hWr hW hS
  refine ⟨fun b d p => ?_, fun b d q => ?_, fun b d p => ?_, fun b r n q => ?_⟩
  · unfold L stepPieces
    rw [trip6_eq]
    refine (cellPieces_low arg6 arg8 f6 _ _ b d p 4 le_rfl b.isLt).trans ?_
    exact cells_value W β x H C arg0 arg6 arg7 arg8 v1 v3 v5 v7 X k f6 f7 f8 hX hx hWr hW hS b d p
  · unfold L stepPieces
    rw [trip6_eq]
    refine (cellPieces_high arg6 arg8 f6 _ _ b _ q 4 le_rfl).trans ((sums_cell arg6 f6 _ _ b d _).trans (hS.zero b d q))
  · unfold L stepPieces
    rw [trip7_eq, hiddenPiece_read, hiddenPiece_read, hiddenPiece_read, hiddenPiece_read]
    match b with
    | 0 => exact hv 0 d p
    | 1 => exact hv 1 d p
    | 2 => exact hv 2 d p
    | 3 => exact hv 3 d p
  · unfold L stepPieces
    rw [trip8_eq]
    exact hots_high H C arg0 arg6 arg7 arg8 X k f6 f7 f8 hS b r n q

include hX hx hWr hW in
/-- A step stores the new hidden state at its place of the output, and nothing else there. -/
theorem step_out (k : Fin k0_t1_loop.trips) (H C : State) (hS : Held H C arg6 arg7 arg8 f6 f7 f8) (b : Fin 4) (t : Fin 16) (d p : Fin 128) :
    let L := stepPieces c arg0 harg0 arg1 harg1 arg2 harg2 arg3 harg3 arg4 harg4 arg5 harg5 arg6 harg6 arg7 harg7 arg8 harg8 v1 v3 v5 v7 X k f5 f6 f7 f8
    arg5.view.read (Elt Ideal) (arg5.view.writes (Elt Ideal) f5 L.1) (ix4 b t d p)
      = if t.val = k.val then stepH W β (frameAt x k.val) (frameAt x (k.val - 1)) H C b d p
        else arg5.view.read (Elt Ideal) f5 (ix4 b t d p) := by
  intro L
  have hv := hid_value W β x H C arg0 arg6 arg7 arg8 v1 v3 v5 v7 X k f6 f7 f8 hX hx hWr hW hS
  unfold L stepPieces
  rw [trip5_eq, outPiece_read, outPiece_read, outPiece_read, outPiece_read, hv, hv, hv, hv]
  by_cases h : t.val = k.val
  · rw [if_pos h]
    match b with
    | 0 => simp [h]
    | 1 => simp [h]
    | 2 => simp [h]
    | 3 => simp [h]
  · simp [h]

include hX hx hWr hW in
/-- After `n` steps the scratch arrays hold the state before step `n`, and the output the hidden states of the steps done. -/
theorem run_held (h0 : Held (states W β (frameAt x) 0).1 (states W β (frameAt x) 0).2 arg6 arg7 arg8 f6 f7 f8) : ∀ n : ℕ, n ≤ 16 →
    let L := runPieces c arg0 harg0 arg1 harg1 arg2 harg2 arg3 harg3 arg4 harg4 arg5 harg5 arg6 harg6 arg7 harg7 arg8 harg8 v1 v3 v5 v7 X f5 f6 f7 f8 n
    Held (states W β (frameAt x) n).1 (states W β (frameAt x) n).2 arg6 arg7 arg8
        (arg6.view.writes (Elt Ideal) f6 L.2.1) (arg7.view.writes (Elt Ideal) f7 L.2.2.1) (arg8.view.writes (Elt Ideal) f8 L.2.2.2)
      ∧ ∀ (b : Fin 4) (t : Fin 16) (d p : Fin 128), t.val < n →
        arg5.view.read (Elt Ideal) (arg5.view.writes (Elt Ideal) f5 L.1) (ix4 b t d p) = (states W β (frameAt x) (t.val + 1)).1 b d p
  | 0, _ => ⟨h0, fun _ _ _ _ h => absurd h (Nat.not_lt_zero _)⟩
  | n + 1, hn => by
    obtain ⟨ih, io⟩ := run_held h0 n (Nat.le_of_succ_le hn)
    have e := pb_k0_t1_succ (F := Ideal) Variants.none c none arg0 harg0 arg1 harg1 arg2 harg2 arg3 harg3 arg4 harg4 arg5 harg5 arg6 harg6
      arg7 harg7 arg8 harg8 v1 v3 v5 v7 (⊤ : EReal) X f5 f6 f7 f8 ⟨n, lt_of_lt_of_eq hn trips_eq.symm⟩
    intro L
    have eL : L = _ := e
    rw [eL]
    dsimp only
    rw [View.writes_append, View.writes_append, View.writes_append, View.writes_append]
    refine ⟨step_held W β x c arg0 harg0 arg1 harg1 arg2 harg2 arg3 harg3 arg4 harg4 arg5 harg5 arg6 harg6 arg7 harg7 arg8 harg8 v1 v3 v5 v7 X
      _ _ _ _ hX hx hWr hW ⟨n, _⟩ _ _ ih, fun b t d p ht => ?_⟩
    refine (step_out W β x c arg0 harg0 arg1 harg1 arg2 harg2 arg3 harg3 arg4 harg4 arg5 harg5 arg6 harg6 arg7 harg7 arg8 harg8 v1 v3 v5 v7 X
      _ _ _ _ hX hx hWr hW ⟨n, _⟩ _ _ ih b t d p).trans ?_
    by_cases h : t.val = n
    · rw [if_pos h, h]
      rfl
    · rw [if_neg h]
      exact io b t d p (by omega)

end

end Cert.KernelStep
-- ==== Proof.KernelStart.lean ====
module

public import proofs.«01_k».proof.Proof.KernelLoop
public import proofs.«01_k».proof.Proof.KernelIdealRun

@[expose] public section

/-! What the kernel's scratch arrays hold before the loop, and what the whole body leaves in its output. -/

set_option maxRecDepth 16384

noncomputable section

namespace Cert.KernelStep

open Cert.KernelIdeal Cert.KernelIdeal.Gen Cert.Spec
open Idealize.ShloMosaic Idealize.ShloMosaic.TcCoe

/-- Small indices as words are equal when they are equal. -/
theorem word_eq_iff {m n : ℕ} (hm : m < 2048) (hn : n < 2048) : BitVec.ofNat 32 m = BitVec.ofNat 32 n ↔ m = n := by
  refine ⟨fun h => ?_, fun h => by rw [h]⟩
  have h1 := congrArg BitVec.toNat h
  rw [BitVec.toNat_ofNat, BitVec.toNat_ofNat, Nat.mod_eq_of_lt (by omega), Nat.mod_eq_of_lt (by omega)] at h1
  exact h1

/-- The last seven bits of a small index are its remainder by 128. -/
theorem word_and (j : ℕ) (hj : j < 2048) : IntOp.andi (BitVec.ofNat 32 j) 127#32 = BitVec.ofNat 32 (j % 128) := by
  apply BitVec.eq_of_toNat_eq
  show (BitVec.ofNat 32 j &&& 127#32).toNat = _
  rw [BitVec.toNat_and, BitVec.toNat_ofNat, BitVec.toNat_ofNat, BitVec.toNat_ofNat, Nat.mod_eq_of_lt (by omega : j < 2 ^ 32),
    Nat.mod_eq_of_lt (by omega : j % 128 < 2 ^ 32)]
  exact Nat.and_two_pow_sub_one_eq_mod j 7

/-- The tile of identities. -/
theorem tile_apply (r : Fin 128) (j : Fin 2048) :
    k0_pay1 (F := Ideal) (ix2 r j) = if r.val = j.val % 128 then (1 : EReal) else 0 := by
  unfold k0_pay1
  pointwise
  rw [word_and j.val j.isLt]
  unfold IntOp.cmpi
  show ((((BitVec.setWidth 32 (BitVec.ofBool (BitVec.ofNat 32 r.val == BitVec.ofNat 32 (j.val % 128)))).toInt : ℝ)) : EReal) = _
  rw [beq_eq_decide]
  by_cases h : r.val = j.val % 128
  · rw [decide_eq_true ((word_eq_iff (by omega) (by omega)).mpr h), if_pos h]
    have : (BitVec.setWidth 32 (BitVec.ofBool true)).toInt = 1 := by decide
    rw [this]
    simp
  · rw [decide_eq_false fun e => h ((word_eq_iff (by omega) (by omega)).mp e), if_neg h]
    have : (BitVec.setWidth 32 (BitVec.ofBool false)).toInt = 0 := by decide
    rw [this]
    simp

/-- The tile as the kernel stores it. -/
def castTile : FVec Ideal S1x128x2048 .bf16 := shapeCast S1x128x2048 (k0_pay1 (F := Ideal)) shapeCasts_S128x2048_S1x128x2048

/-- An entry of the tile: one where the row is the column's remainder, else zero. -/
theorem castTile_apply (r q : Fin 128) (n : Fin 16) :
    castTile (ix3 0 r ⟨128 * n.val + q.val, by omega⟩) = if r = q then (1 : EReal) else 0 := by
  have e : castTile (ix3 0 r ⟨128 * n.val + q.val, by omega⟩) = k0_pay1 (F := Ideal) (ix2 r ⟨128 * n.val + q.val, by omega⟩) := by
    unfold castTile
    generalize k0_pay1 (F := Ideal) = Z
    pointwise
  rw [e, tile_apply]
  have e' : (128 * n.val + q.val) % 128 = q.val := by omega
  by_cases h : r = q
  · rw [if_pos h, if_pos (by show r.val = (128 * n.val + q.val) % 128; rw [e', h])]
  · rw [if_neg h, if_neg (by show ¬ r.val = (128 * n.val + q.val) % 128; rw [e']; exact fun e => h (Fin.ext e))]

/-- A batch's tile lies within the scratch array. -/
theorem tile_fits : ∀ b : Fin 4, ∀ a, (![b.val, 128, 0] : Fin 3 → ℕ) a + S1x128x2048.size a ≤ S4x256x2048.size a := by decide

/-- The store of the tile for one batch entry. -/
def tilePiece (b : Fin 4) : View.Piece (Elt Ideal) S4x256x2048 .bf16 := ⟨Rect.unit ![b.val, 128, 0] S1x128x2048.size (tile_fits b), castTile⟩

/-- Before the loop the body stores the tile into the third scratch array, once per batch. -/
theorem pre8_eq : (Cert.KernelIdeal.Hand.pre8 : List (View.Piece (Elt Ideal) S4x256x2048 .bf16))
    = [tilePiece 3, tilePiece 2, tilePiece 1, tilePiece 0] := rfl

/-- An entry of the lower half after one more tile is stored. -/
theorem tilePiece_read (arg8 : Memref sig .tc .vmem S4x256x2048 .bf16) (f : BufTy.Contents (Elt Ideal) arg8.view.ty) (b' : Fin 4)
    (L : List (View.Piece (Elt Ideal) S4x256x2048 .bf16)) (b : Fin 4) (r : Fin 128) (n : Fin 16) (q : Fin 128) :
    arg8.view.read (Elt Ideal) (arg8.view.writes (Elt Ideal) f (tilePiece b' :: L)) (at8 b (high r) n q)
      = if b' = b then (if r = q then (1 : EReal) else 0)
        else arg8.view.read (Elt Ideal) (arg8.view.writes (Elt Ideal) f L) (at8 b (high r) n q) := by
  by_cases h : b' = b
  · subst h
    rw [if_pos rfl, ← castTile_apply r q n]
    refine View.read_writes_cons_unit_of_mem arg8.view f _ _ L _ (ix3 0 r ⟨128 * n.val + q.val, by omega⟩) rfl fun a => ?_
    match a with
    | 0 => rfl
    | 1 => rfl
    | 2 => exact (Nat.zero_add _).symm
  · rw [if_neg h]
    exact View.read_writes_cons_unit_of_not_mem arg8.view f _ _ L _ rfl 0 (batch_ne h)

/-- The zeros the cells start at. -/
def zeroCells : FVec Ideal S1x128x256 .bf16 := k0_pay188

/-- The zeros stored over the cell rows are zero. -/
theorem zeroCells_apply (d : Fin 128) (j : Fin 256) : zeroCells (ix3 0 d j) = (0 : EReal) := by
  unfold zeroCells k0_pay188
  pointwise

/-- A batch's cell rows lie within the scratch array. -/
theorem zeros_fit : ∀ b : Fin 4, ∀ a, (![b.val, 512, 0] : Fin 3 → ℕ) a + S1x128x256.size a ≤ S4x640x256.size a := by decide

/-- The store of the zero cells of one batch entry. -/
def zeroPiece (b : Fin 4) : Piece6 := ⟨Rect.unit ![b.val, 512, 0] S1x128x256.size (zeros_fit b), zeroCells⟩

/-- Before the loop the body stores zeros into the cell rows, once per batch. -/
theorem pre6_eq : (Cert.KernelIdeal.Hand.pre6 : List Piece6) = [zeroPiece 3, zeroPiece 2, zeroPiece 1, zeroPiece 0] := rfl

/-- An entry of the cell rows after one more batch's zeros are stored. -/
theorem zeroPiece_read (arg6 : Memref sig .tc .vmem S4x640x256 .bf16) (f : BufTy.Contents (Elt Ideal) arg6.view.ty) (b' : Fin 4)
    (L : List Piece6) (b : Fin 4) (d : Fin 128) (j : Fin 256) :
    rd arg6 f (zeroPiece b' :: L) (ix3 b (rowCell d) j) = if b' = b then (0 : EReal) else rd arg6 f L (ix3 b (rowCell d) j) := by
  by_cases h : b' = b
  · subst h
    rw [if_pos rfl, ← zeroCells_apply d j]
    refine View.read_writes_cons_unit_of_mem arg6.view f _ _ L _ (ix3 0 d j) rfl fun a => ?_
    match a with
    | 0 => rfl
    | 1 => rfl
    | 2 => exact (Nat.zero_add _).symm
  · rw [if_neg h]
    exact View.read_writes_cons_unit_of_not_mem arg6.view f _ _ L _ rfl 0 (batch_ne h)

/-- The zeros stored over the second scratch array are zero. -/
theorem zeroHidden_apply (c : Fin 136) (j : Fin 512) : k0_pay187 (F := Ideal) (ix2 c j) = (0 : EReal) := by
  unfold k0_pay187
  pointwise

/-- The scratch arrays start at the zero state. -/
theorem start_held (W : Fin 512 → Fin 200 → EReal) (β : Fin 512 → EReal) (X : ℕ → Frame)
    (arg6 : Memref sig .tc .vmem S4x640x256 .bf16) (arg7 : Memref sig .tc .vmem S136x512 .bf16) (arg8 : Memref sig .tc .vmem S4x256x2048 .bf16)
    (f6 : BufTy.Contents (Elt Ideal) arg6.view.ty) (f7 : BufTy.Contents (Elt Ideal) arg7.view.ty)
    (f8 : BufTy.Contents (Elt Ideal) arg8.view.ty) :
    Held (states W β X 0).1 (states W β X 0).2 arg6 arg7 arg8 (arg6.view.writes (Elt Ideal) f6 Hand.pre6)
      (arg7.view.writes (Elt Ideal) f7 Hand.pre7) (arg8.view.writes (Elt Ideal) f8 Hand.pre8) := by
  have h6 : ∀ (b : Fin 4) (d : Fin 128) (j : Fin 256),
      rd arg6 f6 Hand.pre6 (ix3 b (rowCell d) j) = (0 : EReal) := fun b d j => by
    rw [pre6_eq, zeroPiece_read, zeroPiece_read, zeroPiece_read, zeroPiece_read]
    match b with
    | 0 => rfl
    | 1 => rfl
    | 2 => rfl
    | 3 => rfl
  refine ⟨fun b d p => h6 b d _, fun b d q => h6 b d _, fun b d p => ?_, fun b r n q => ?_⟩
  · refine (View.read_writes_cons_unit_of_mem arg7.view f7 _ _ [] _ (ix2 (⟨8 + d.val, by omega⟩ : Fin 136) (col7 b p)) rfl fun a => ?_).trans
      (zeroHidden_apply _ _)
    match a with
    | 0 => exact (Nat.zero_add _).symm
    | 1 => exact (Nat.zero_add _).symm
  · rw [pre8_eq, tilePiece_read, tilePiece_read, tilePiece_read, tilePiece_read]
    match b with
    | 0 => rfl
    | 1 => rfl
    | 2 => rfl
    | 3 => rfl

/-- The weights of the features are loaded whole. -/
theorem load1_eq (arg1 : Memref sig .tc .vmem S512x68 .f32) (X : BufTy.Contents (Elt Ideal) arg1.view.ty) (o : Fin 512) (c : Fin 68) :
    Hand.ld1 arg1 X (ix2 o c) = arg1.view.read (Elt Ideal) X (ix2 o c) := by
  have g : ∀ Z : FVec Ideal S512x68 .f32, k0_pay183 (F := Ideal) Z (ix2 o c) = Z (ix2 o c) := fun Z => by
    unfold k0_pay183
    pointwise
  refine (g _).trans (readAt_eq arg1 X _ _ _ fun a => ?_)
  match a with
  | 0 => exact (Nat.zero_add _).symm
  | 1 => exact (Nat.zero_add _).symm

/-- The weights of the offsets are loaded whole. -/
theorem load2_eq (arg2 : Memref sig .tc .vmem S512x4 .f32) (X : BufTy.Contents (Elt Ideal) arg2.view.ty) (o : Fin 512) (c : Fin 4) :
    Hand.ld2 arg2 X (ix2 o c) = arg2.view.read (Elt Ideal) X (ix2 o c) := by
  have g : ∀ Z : FVec Ideal S512x4 .f32, k0_pay184 (F := Ideal) Z (ix2 o c) = Z (ix2 o c) := fun Z => by
    unfold k0_pay184
    pointwise
  refine (g _).trans (readAt_eq arg2 X _ _ _ fun a => ?_)
  match a with
  | 0 => exact (Nat.zero_add _).symm
  | 1 => exact (Nat.zero_add _).symm

/-- The weights of the neighbours' rows are loaded whole. -/
theorem load3_eq (arg3 : Memref sig .tc .vmem S512x136 .bf16) (X : BufTy.Contents (Elt Ideal) arg3.view.ty) (o : Fin 512) (c : Fin 136) :
    Hand.ld3 arg3 X (ix2 o c) = arg3.view.read (Elt Ideal) X (ix2 o c) := by
  have g : ∀ Z : FVec Ideal S512x136 .bf16, k0_pay185 (F := Ideal) Z (ix2 o c) = Z (ix2 o c) := fun Z => by
    unfold k0_pay185
    pointwise
  refine (g _).trans (readAt_eq arg3 X _ _ _ fun a => ?_)
  match a with
  | 0 => exact (Nat.zero_add _).symm
  | 1 => exact (Nat.zero_add _).symm

/-- The bias is loaded whole. -/
theorem load4_eq (arg4 : Memref sig .tc .vmem S512x128 .f32) (X : BufTy.Contents (Elt Ideal) arg4.view.ty) (o : Fin 512) (c : Fin 128) :
    Hand.ld4 arg4 X (ix2 o c) = arg4.view.read (Elt Ideal) X (ix2 o c) := by
  have g : ∀ Z : FVec Ideal S512x128 .f32, k0_pay186 (F := Ideal) Z (ix2 o c) = Z (ix2 o c) := fun Z => by
    unfold k0_pay186
    pointwise
  refine (g _).trans (readAt_eq arg4 X _ _ _ fun a => ?_)
  match a with
  | 0 => exact (Nat.zero_add _).symm
  | 1 => exact (Nat.zero_add _).symm

/-- The kernel's output: the hidden state after every step. -/
def hiddenOut (W : Fin 512 → Fin 200 → EReal) (β : Fin 512 → EReal) (x : S4x16x68x128.Idx → EReal) : S4x16x128x128.Idx → EReal := fun i =>
  (states W β (frameAt x) ((i 1).val + 1)).1 (i 0) (i 2) (i 3)

/-- The body leaves the specified hidden states, from weights scaled as the host scales them. -/
theorem leaves (W : Fin 512 → Fin 200 → EReal) (β : Fin 512 → EReal) (x : S4x16x68x128.Idx → EReal)
    (x1 : FVec Ideal S512x68 .f32) (x2 : FVec Ideal S512x4 .f32) (x3 : FVec Ideal S512x136 .bf16) (x4 : FVec Ideal S512x128 .f32)
    (hx : ∀ n, RealCoords (frameAt x n)) (hWr : RealOffsets W)
    (hW : Weights W β x1 x2 x3 x4) : Hand.Leaves (F := Ideal) x x1 x2 x3 x4 (hiddenOut W β x) := by
  intro c arg0 harg0 arg1 harg1 arg2 harg2 arg3 harg3 arg4 harg4 arg5 harg5 arg6 harg6 arg7 harg7 arg8 harg8 X0 X1 X2 X3 X4 f5 f6 f7 f8
    h0 h1 h2 h3 h4
  have w : Weights W β (Hand.ld1 arg1 X1) (Hand.ld2 arg2 X2) (Hand.ld3 arg3 X3) (Hand.ld4 arg4 X4) :=
    ⟨fun o e => (load1_eq arg1 X1 o e).trans ((congrFun h1 _).trans (hW.query o e)),
      fun o e => (load2_eq arg2 X2 o e).trans ((congrFun h2 _).trans (hW.offset o e)),
      fun o e => (load3_eq arg3 X3 o _).trans ((congrFun h3 _).trans (hW.point o e)),
      fun o e => (load3_eq arg3 X3 o _).trans ((congrFun h3 _).trans (hW.pad o e)),
      fun o e => (load3_eq arg3 X3 o _).trans ((congrFun h3 _).trans (hW.hidden o e)),
      fun o e => (load4_eq arg4 X4 o e).trans ((congrFun h4 _).trans (hW.bias o e))⟩
  have r := (run_held W β x c arg0 harg0 arg1 harg1 arg2 harg2 arg3 harg3 arg4 harg4 arg5 harg5 arg6 harg6 arg7 harg7 arg8 harg8 _ _ _ _ X0 f5
    (arg6.view.writes (Elt Ideal) f6 Hand.pre6) (arg7.view.writes (Elt Ideal) f7 Hand.pre7) (arg8.view.writes (Elt Ideal) f8 Hand.pre8)
    h0 hx hWr w (start_held W β _ arg6 arg7 arg8 f6 f7 f8) 16 le_rfl).2
  have e16 : Scf.trips k0_t1_loop.lb k0_t1_loop.ub k0_t1_loop.st = 16 := trips_eq
  rw [e16]
  funext i
  obtain ⟨b, t, d, p, rfl⟩ : ∃ (b : Fin 4) (t : Fin 16) (d p : Fin 128), i = ix4 b t d p := ⟨i 0, i 1, i 2, i 3, eq_ix4 i⟩
  exact r b t d p t.isLt

end Cert.KernelStep
-- ==== Proof.KernelHost.lean ====
module

public import proofs.«01_k».proof.Proof.KernelStart
public import Idealize.ShloMosaic.Lib.Pipeline.ValueKit
public import Idealize.ShloMosaic.Lib.StableHlo.RunRead

@[expose] public section

/-! The kernel's whole program: the weights the host scales, and the result the host puts together. -/

set_option maxRecDepth 16384

noncomputable section

namespace Cert.KernelStep

open Cert.KernelIdeal Cert.KernelIdeal.Gen Cert.Spec
open Idealize.ShloMosaic Idealize.ShloMosaic.TcCoe
open Idealize.ShloMosaic.Pipeline (Dat Cfg Window)

section

variable (m : (ℓ : Loc nD τ sig) → Buf (Elt Ideal) ℓ) (c : Dev nD)

/-- The first window's only block is the one at the origin. -/
theorem index0 : win0_0.index t0_0 = fun _ => 0 := by decide +kernel
/-- The second window's only block is the one at the origin. -/
theorem index1 : win0_1.index t0_0 = fun _ => 0 := by decide +kernel
/-- The third window's only block is the one at the origin. -/
theorem index2 : win0_2.index t0_0 = fun _ => 0 := by decide +kernel
/-- The fourth window's only block is the one at the origin. -/
theorem index3 : win0_3.index t0_0 = fun _ => 0 := by decide +kernel
/-- The fifth window's only block is the one at the origin. -/
theorem index4 : win0_4.index t0_0 = fun _ => 0 := by decide +kernel

/-- The first window holds the whole input. -/
theorem window0 : Hand.iblk m c 0 t0_0 = Hand.V m c main_arg0 := by
  funext i
  blk_simp [Hand.iblk]
  refine congrArg (Hand.V m c main_arg0) ?_
  blk_ext [index0]

/-- The second window holds the whole array of feature weights. -/
theorem window1 : Hand.iblk m c 1 t0_0 = Hand.V m c main_call0_v8 := by
  funext i
  blk_simp [Hand.iblk]
  refine congrArg (Hand.V m c main_call0_v8) ?_
  blk_ext [index1]

/-- The third window holds the whole array of offset weights. -/
theorem window2 : Hand.iblk m c 2 t0_0 = Hand.V m c main_call0_v9 := by
  funext i
  blk_simp [Hand.iblk]
  refine congrArg (Hand.V m c main_call0_v9) ?_
  blk_ext [index2]

/-- The fourth window holds the whole array of the weights of the neighbours' rows. -/
theorem window3 : Hand.iblk m c 3 t0_0 = Hand.V m c main_call0_v13 := by
  funext i
  blk_simp [Hand.iblk]
  refine congrArg (Hand.V m c main_call0_v13) ?_
  blk_ext [index3]

/-- The fifth window holds the whole scaled bias. -/
theorem window4 : Hand.iblk m c 4 t0_0 = Hand.V m c main_call0_v7 := by
  funext i
  blk_simp [Hand.iblk]
  refine congrArg (Hand.V m c main_call0_v7) ?_
  blk_ext [index4]

/-- The host's column of scales. -/
def scales : FVec Ideal S512x1 .f32 :=
  concatenate S512x1 0 [⟨S384x1, broadcastInDim S384x1 ![] bcast_S_S384x1 (constant (F := Ideal) S_ .f32 0x3F000000#32)⟩,
    ⟨S128x1, broadcastInDim S128x1 ![] bcast_S_S128x1 (constant (F := Ideal) S_ .f32 0x3F800000#32)⟩] concatenates_S384x1_S128x1_S512x1_d0

/-- The scale of output `o`. -/
theorem scales_apply (o : Fin 512) : scales (ix2 o 0) = (scale o : EReal) := by
  unfold scales scale
  pointwise
  rw [half_bits]
  by_cases h : o.val < 384
  · rw [dif_pos h, if_pos h]
  · rw [dif_neg h, if_neg h, EReal.coe_one]

/-- The host's scaled weights. -/
def scaled (W : FVec Ideal S512x200 .f32) : FVec Ideal S512x200 .f32 :=
  mulf W (broadcastInDim S512x200 ![0, 1] bcast_S512x1_S512x200_0_1 scales)

/-- An entry of the scaled weights. -/
theorem scaled_apply (W : FVec Ideal S512x200 .f32) (o : Fin 512) (e : Fin 200) :
    scaled W (ix2 o e) = (scale o : EReal) * W (ix2 o e) := by
  rw [← scales_apply, mul_comm]
  unfold scaled
  pointwise

/-- The host's scaled bias, along every query. -/
def scaledBias (β : FVec Ideal S512 .f32) : FVec Ideal S512x128 .f32 :=
  broadcastInDim S512x128 ![0, 1] bcast_S512x1_S512x128_0_1 (mulf (broadcastInDim S512x1 ![0] bcast_S512_S512x1_0 β) scales)

/-- An entry of the scaled bias: the bias of its output, whatever the column. -/
theorem scaledBias_apply (β : FVec Ideal S512 .f32) (o : Fin 512) (q : Fin 128) :
    scaledBias β (ix2 o q) = (scale o : EReal) * β (ix1 o) := by
  rw [← scales_apply, mul_comm]
  unfold scaledBias
  pointwise

/-- The weights of the features. -/
def featureWeights (Z : FVec Ideal S512x200 .f32) : FVec Ideal S512x68 .f32 :=
  extractStridedSlice S512x68 ![0, 0] Z slices_S512x200_S512x68_0_0

/-- An entry of the weights of the features. -/
theorem featureWeights_apply (Z : FVec Ideal S512x200 .f32) (o : Fin 512) (e : Fin 68) :
    featureWeights Z (ix2 o e) = Z (ix2 o ⟨e.val, by omega⟩) := by
  unfold featureWeights
  pointwise

/-- The weights of the offsets. -/
def offsetWeights (Z : FVec Ideal S512x200 .f32) : FVec Ideal S512x4 .f32 :=
  extractStridedSlice S512x4 ![0, 68] Z slices_S512x200_S512x4_0_68

/-- An entry of the weights of the offsets. -/
theorem offsetWeights_apply (Z : FVec Ideal S512x200 .f32) (o : Fin 512) (e : Fin 4) :
    offsetWeights Z (ix2 o e) = Z (ix2 o ⟨68 + e.val, by omega⟩) := by
  unfold offsetWeights
  pointwise

/-- The weights of the neighbours' rows: the offsets', four zeros, the hidden state's. -/
def pointWeights (Z : FVec Ideal S512x200 .f32) : FVec Ideal S512x136 .bf16 :=
  truncf .bf16 (concatenate S512x136 1 [⟨S512x4, offsetWeights Z⟩,
    ⟨S512x4, broadcastInDim S512x4 ![] bcast_S_S512x4 (constant (F := Ideal) S_ .f32 0x00000000#32)⟩,
    ⟨S512x128, extractStridedSlice S512x128 ![0, 72] Z slices_S512x200_S512x128_0_72⟩]
    concatenates_S512x4_S512x4_S512x128_S512x136_d1) bitsLt_bf16_f32

/-- An entry of the weights of the neighbours' rows. -/
theorem pointWeights_apply (Z : FVec Ideal S512x200 .f32) (o : Fin 512) (j : Fin 136) :
    pointWeights Z (ix2 o j) = if h : j.val < 4 then Z (ix2 o ⟨68 + j.val, by omega⟩)
      else if h : j.val - 4 < 4 then 0 else Z (ix2 o ⟨72 + (j.val - 4 - 4), by omega⟩) := by
  unfold pointWeights offsetWeights
  pointwise

/-- The host hands the body the scaled weights of the features. -/
theorem entry_features : Hand.V m c main_call0_v8 = featureWeights (scaled (m ((c.tc : Thread nD τ).loc main_arg1))) := by
  show StableHlo.after hostOps0 (fun b => m (c, b)) (Proc.devRef .tc main_call0_v8) = _
  after_reads_simp
  rfl

/-- The host hands the body the scaled weights of the offsets. -/
theorem entry_offsets : Hand.V m c main_call0_v9 = offsetWeights (scaled (m ((c.tc : Thread nD τ).loc main_arg1))) := by
  show StableHlo.after hostOps0 (fun b => m (c, b)) (Proc.devRef .tc main_call0_v9) = _
  after_reads_simp
  rfl

/-- The host hands the body the scaled weights of the neighbours' rows. -/
theorem entry_points : Hand.V m c main_call0_v13 = pointWeights (scaled (m ((c.tc : Thread nD τ).loc main_arg1))) := by
  show StableHlo.after hostOps0 (fun b => m (c, b)) (Proc.devRef .tc main_call0_v13) = _
  after_reads_simp
  rfl

/-- The host hands the body the scaled bias. -/
theorem entry_bias : Hand.V m c main_call0_v7 = scaledBias (m ((c.tc : Thread nD τ).loc main_arg2)) := by
  show StableHlo.after hostOps0 (fun b => m (c, b)) (Proc.devRef .tc main_call0_v7) = _
  after_reads_simp
  rfl

/-- The body starts with the scaled weights in its windows. -/
theorem entry_weights : Weights (fun o e => (m ((c.tc : Thread nD τ).loc main_arg1) : S512x200.Idx → EReal) (ix2 o e))
    (fun o => (m ((c.tc : Thread nD τ).loc main_arg2) : S512.Idx → EReal) (ix1 o))
    (Hand.iblk m c 1 t0_0) (Hand.iblk m c 2 t0_0) (Hand.iblk m c 3 t0_0) (Hand.iblk m c 4 t0_0) := by
  rw [window1, window2, window3, window4, entry_features, entry_offsets, entry_points, entry_bias]
  refine ⟨fun o e => ?_, fun o e => ?_, fun o e => ?_, fun o e => ?_, fun o d => ?_, fun o q => scaledBias_apply _ o q⟩
  · exact (featureWeights_apply _ o e).trans (scaled_apply _ o _)
  · exact (offsetWeights_apply _ o e).trans (scaled_apply _ o _)
  · refine (pointWeights_apply _ o _).trans ((dif_pos e.isLt).trans (scaled_apply _ o _))
  · refine (pointWeights_apply _ o _).trans ((dif_neg (by show ¬ 4 + e.val < 4; omega)).trans (dif_pos (by show 4 + e.val - 4 < 4; omega)))
  · refine (pointWeights_apply _ o _).trans ((dif_neg (by show ¬ 8 + d.val < 4; omega)).trans
      ((dif_neg (by show ¬ 8 + d.val - 4 < 4; omega)).trans ((scaled_apply _ o _).trans ?_)))
    refine congrArg (fun i => _ * (m ((c.tc : Thread nD τ).loc main_arg1) : S512x200.Idx → EReal) (ix2 o i)) (Fin.ext ?_)
    show 72 + (8 + d.val - 4 - 4) = 72 + d.val
    omega

/-- The output array ends as the body left it. -/
theorem final_out (O : Dev nD → S4x16x128x128.Idx → Elt Ideal .f32) : (Hand.dats m O 0 c).arrAt 5 cfg0.N = O c := by
  refine (Hand.dats m O 0 c).arrAt_eq_of_after_last 5 t0_0 (by decide +kernel) (O c) fun j => ?_
  rfl

/-- The host's result: the positions, and below them the hidden states. -/
def joined (x : FVec Ideal S4x16x68x128 .f32) (O : FVec Ideal S4x16x128x128 .f32) : FVec Ideal S4x16x132x128 .f32 :=
  concatenate S4x16x132x128 2 [⟨S4x16x4x128, extractStridedSlice S4x16x4x128 ![0, 0, 0, 0] x slices_S4x16x68x128_S4x16x4x128_0_0_0_0⟩,
    ⟨S4x16x128x128, O⟩] concatenates_S4x16x4x128_S4x16x128x128_S4x16x132x128_d2

/-- An entry of the host's result: a position above row 4, a hidden state from there on. -/
theorem joined_apply (x : FVec Ideal S4x16x68x128 .f32) (O : FVec Ideal S4x16x128x128 .f32) (b : Fin 4) (t : Fin 16) (e : Fin 132) (q : Fin 128) :
    joined x O (ix4 b t e q) = if h : e.val < 4 then x (ix4 b t ⟨e.val, by omega⟩ q) else O (ix4 b t ⟨e.val - 4, by omega⟩ q) := by
  unfold joined
  pointwise

omit m c in
/-- The host's last operations join the positions with the body's output, whatever the memory holds. -/
theorem after_tail (Y : Valuation τ sig (Elt Ideal)) : StableHlo.after hostOps1 Y (Proc.devRef .tc main_v0)
    = joined (Y (Proc.devRef .tc main_arg0)) (Y (Proc.devRef .tc main_call0_v14)) := by
  after_reads_simp
  rfl

/-- The host's operations after the kernel join the positions with what the body left. -/
theorem tail_eq (O : Dev nD → S4x16x128x128.Idx → Elt Ideal .f32) :
    StableHlo.after hostOps1 (Pipeline.withArrays spec0 c (StableHlo.after hostOps0 (fun b => m (c, b)))
        fun w => (Hand.dats m O 0 c).arrAt w cfg0.N) (Proc.devRef .tc main_v0)
      = joined (m ((c.tc : Thread nD τ).loc main_arg0)) (O c) := by
  have e0 : Pipeline.withArrays spec0 c (StableHlo.after hostOps0 (fun b => m (c, b)))
      (fun w => (Hand.dats m O 0 c).arrAt w cfg0.N) (Proc.devRef .tc main_arg0) = m ((c.tc : Thread nD τ).loc main_arg0) := by
    refine (Pipeline.withArrays_arr spec0 launch0.win.arr_inj c _ _ 0).trans ?_
    refine (Dat.arrAt_in _ 0 rfl cfg0.N).trans ?_
    exact Hand.V_arg m main_arg0 (Or.inl rfl) c
  have e1 : Pipeline.withArrays spec0 c (StableHlo.after hostOps0 (fun b => m (c, b)))
      (fun w => (Hand.dats m O 0 c).arrAt w cfg0.N) (Proc.devRef .tc main_call0_v14) = O c :=
    (Pipeline.withArrays_arr spec0 launch0.win.arr_inj c _ _ 5).trans (final_out m c O)
  generalize Pipeline.withArrays spec0 c (StableHlo.after hostOps0 (fun b => m (c, b)))
      (fun w => (Hand.dats m O 0 c).arrAt w cfg0.N) = Y at e0 e1
  rw [← e0, ← e1]
  exact after_tail Y

end

end Cert.KernelStep
-- ==== Proof.RefStep.lean ====
module

public import proofs.«01_k».proof.Proof.Gen.ReferenceIdeal.Run
public import proofs.«01_k».proof.Proof.Gates
public import Idealize.ShloMosaic.Lib.Pointwise
public import Idealize.ShloMosaic.Lib.Tactic.CleanTypes
public import Idealize.ShloMosaic.PureOps.Ideal.Laws

@[expose] public section

set_option maxRecDepth 16384
set_option maxHeartbeats 1000000

noncomputable section

namespace Cert.RefStep

open Cert.ReferenceIdeal Cert.ReferenceIdeal.Value Cert.Spec
open Idealize.ShloMosaic Idealize.ShloMosaic.TcCoe

/-- What the reference's loop holds before its step `n`. -/
structure Holds (V : Valuation τ sig (Elt Ideal)) (x : S4x16x68x128.Idx → EReal) (W : S512x200.Idx → EReal)
    (β : S512.Idx → EReal) (n : ℕ) (H C : State) : Prop where
  step_lt : n < 16
  step : V (Proc.devRef .tc main_v4_5) = fun _ => BitVec.ofNat 32 n
  input : V (Proc.devRef .tc main_v4_0) = x
  pos : ∀ b t e q, (V (Proc.devRef .tc main_v4_1) : S4x16x4x128.Idx → EReal) (ix4 b t e q) = x (ix4 b t (coord e) q)
  weight : V (Proc.devRef .tc main_v4_2) = W
  bias : V (Proc.devRef .tc main_v4_3) = β
  hidden : V (Proc.devRef .tc main_v4_6) = fun i : S4x128x128.Idx => H (i 0) (i 1) (i 2)
  cell : V (Proc.devRef .tc main_v4_7) = fun i : S4x128x128.Idx => C (i 0) (i 1) (i 2)

attribute [local irreducible] sortedFrom

variable {V : Valuation τ sig (Elt Ideal)} {x : S4x16x68x128.Idx → EReal} {W : S512x200.Idx → EReal}
  {β : S512.Idx → EReal} {n : ℕ} {H C : State}

/-- Indices with equal coordinates are equal. -/
theorem ix4_congr {a b c d : ℕ} {i i' : Fin a} {j j' : Fin b} {k k' : Fin c} {l l' : Fin d} (hi : i.val = i'.val)
    (hj : j.val = j'.val) (hk : k.val = k'.val) (hl : l.val = l'.val) : ix4 i j k l = ix4 i' j' k' l' := by
  rw [Fin.ext hi, Fin.ext hj, Fin.ext hk, Fin.ext hl]

/-- The start of a slice taken at step `w` of the time axis. -/
def startOf (w : IVec S_ 32) : Fin 4 → ℤ := fun k =>
  (((![constantI S_ 32 0#32, select (cmpi .slt w (constantI S_ 32 0#32)) (addi (id w) (constantI S_ 32 16#32)) w,
      constantI S_ 32 0#32, constantI S_ 32 0#32] : Fin 4 → IVec S_ 32)) k (Shape.Idx.first Gen.h_S_)).toInt

/-- Where the slice of step `m` starts. -/
theorem startOf_eq {w : IVec S_ 32} {m : ℕ} (hm : m < 16) (hw : w = fun _ => BitVec.ofNat 32 m) :
    startOf w = ![0, (m : ℤ), 0, 0] := by
  subst hw
  funext k
  interval_cases m <;> fin_cases k <;> rfl

/-- The step's positions. -/
theorem pos_now (h : Holds V x W β n H C) (b e : Fin 4) (q : Fin 128) :
    (res_main_while0b_v7 V : S4x4x128.Idx → EReal) (ix3 b e q) = frameAt x n b (coord e) q := by
  show shapeCast S4x4x128 (Host.dynamicSlice S4x1x4x128 (V (Proc.devRef .tc main_v4_1) : S4x16x4x128.Idx → EReal)
    (startOf (V (Proc.devRef .tc main_v4_5))) Gen.sliceFits_S4x16x4x128_S4x1x4x128) Gen.shapeCasts_S4x1x4x128_S4x4x128 (ix3 b e q) = _
  rw [startOf_eq h.step_lt h.step]
  have hn := h.step_lt
  pointwise [Host.clampedStart]
  rw [h.pos]
  exact congrArg x (ix4_congr (by simp) (by simp; omega) (by simp) (by simp))

/-- The step before step `m`, and step 0 before step 0. -/
theorem prev_word {w : IVec S_ 32} {m : ℕ} (hm : m < 16) (hw : w = fun _ => BitVec.ofNat 32 m) :
    select (cmpi .sgt w (constantI S_ 32 0#32)) (subi w (constantI S_ 32 1#32)) (constantI S_ 32 0#32)
      = fun _ => BitVec.ofNat 32 (m - 1) := by
  subst hw
  have key : ∀ m : Fin 16, Scalar.select (IntOp.cmpi .sgt (BitVec.ofNat 32 m.val) 0#32) (BitVec.ofNat 32 m.val - 1#32) 0#32
      = BitVec.ofNat 32 (m.val - 1) := by decide
  funext i
  exact key ⟨m, hm⟩

/-- The reference's time index of the previous frame. -/
theorem prev_step (h : Holds V x W β n H C) :
    (res_main_while0b_v10 V : IVec S_ 32) = fun _ => BitVec.ofNat 32 (n - 1) := by
  show select (cmpi .sgt (V (Proc.devRef .tc main_v4_5) : IVec S_ 32) (constantI S_ 32 0#32))
    (subi (V (Proc.devRef .tc main_v4_5) : IVec S_ 32) (constantI S_ 32 1#32)) (constantI S_ 32 0#32) = _
  exact prev_word h.step_lt h.step

/-- The previous step's positions. -/
theorem pos_prev (h : Holds V x W β n H C) (b e : Fin 4) (q : Fin 128) :
    (res_main_while0b_v11 V : S4x4x128.Idx → EReal) (ix3 b e q) = frameAt x (n - 1) b (coord e) q := by
  show shapeCast S4x4x128 (Host.dynamicSlice S4x1x4x128 (V (Proc.devRef .tc main_v4_1) : S4x16x4x128.Idx → EReal)
    (startOf (res_main_while0b_v10 V)) Gen.sliceFits_S4x16x4x128_S4x1x4x128) Gen.shapeCasts_S4x1x4x128_S4x4x128 (ix3 b e q) = _
  have hn : n - 1 < 16 := lt_of_le_of_lt (Nat.sub_le n 1) h.step_lt
  rw [startOf_eq hn (prev_step h)]
  pointwise [Host.clampedStart]
  rw [h.pos]
  exact congrArg x (ix4_congr (by simp) (by simp; omega) (by simp) (by simp))

/-- An entry of the differences of positions. -/
theorem diff_apply (h : Holds V x W β n H C) (b e : Fin 4) (q r : Fin 128) :
    (res_main_while0b_v16 V : S4x4x128x128.Idx → EReal) (ix4 b e q r)
      = frameAt x n b (coord e) q - frameAt x (n - 1) b (coord e) r := by
  show subf (φ := .f32) (F := Ideal) (broadcastInDim S4x4x128x128 ![0, 1, 2, 3] Gen.bcast_S4x4x128x1_S4x4x128x128_0_1_2_3
      (broadcastInDim S4x4x128x1 ![0, 1, 2] Gen.bcast_S4x4x128_S4x4x128x1_0_1_2 (res_main_while0b_v7 V : S4x4x128.Idx → EReal)))
    (broadcastInDim S4x4x128x128 ![0, 1, 2, 3] Gen.bcast_S4x4x1x128_S4x4x128x128_0_1_2_3
      (broadcastInDim S4x4x1x128 ![0, 1, 3] Gen.bcast_S4x4x128_S4x4x1x128_0_1_3 (res_main_while0b_v11 V : S4x4x128.Idx → EReal)))
    (ix4 b e q r) = _
  pointwise
  rw [pos_now h, pos_prev h]

/-- An entry of the scores: the square root of the distance, negated. -/
theorem score_apply (h : Holds V x W β n H C) (b : Fin 4) (q r : Fin 128) :
    (res_main_while0b_v20 V : S4x128x128.Idx → EReal) (ix3 b q r)
      = -Ideal.sqrt (dist (frameAt x n) (frameAt x (n - 1)) b q r) := by
  show Host.negf (φ := .f32) (F := Ideal) (Host.sqrt (Host.reduceAdd (mulf (res_main_while0b_v16 V : S4x4x128x128.Idx → EReal)
    (res_main_while0b_v16 V : S4x4x128x128.Idx → EReal)) (constant S_ .f32 0x00000000#32) Gen.reducesTo_S4x4x128x128_S4x128x128_d1 Gen.h_S_))
    (ix3 b q r) = _
  pointwise
  simp only [diff_apply h]
  rfl

/-- The positions a top-k along the last axis gives are those of the stable sort. -/
theorem topK_indices (y : S4x128x128.Idx → EReal) (b : Fin 4) (q : Fin 128) (k : Fin 16) :
    (Host.topK S4x128x16 2 (FloatOps.cmpfTotal (F := Ideal) (φ := .f32) .gt) y Gen.sliceFits_S4x128x128_S4x128x16).2 (ix3 b q k)
      = BitVec.ofNat 32 (sortedFrom (fun r r' : Fin 128 => decide (y (ix3 b q r') < y (ix3 b q r))) (k.castLE (by decide))).val := by
  have hal : ∀ k' r : Fin 128, Shape.Idx.along (s := S4x128x128) (ix3 b q k') (2 : Fin 3) r = ix3 b q r := by
    intro k' r
    funext a
    fin_cases a <;> rfl
  have hB : (fun r r' : Fin 128 => (Ideal.cmp .ogt (y (ix3 b q r)) (y (ix3 b q r')) == 1#1))
      = fun r r' : Fin 128 => decide (y (ix3 b q r') < y (ix3 b q r)) := by
    funext r r'
    by_cases hlt : y (ix3 b q r') < y (ix3 b q r) <;> simp [Ideal.cmp, hlt]
  rw [← hB]
  clear hB
  unfold Host.topK
  pointwise
  unfold Host.sort2
  rw [dif_pos (show 2 < S4x128x128.rank by decide)]
  have hk : k.val < 128 := k.isLt.trans (by decide)
  show BitVec.ofNat 32 (Shape.Idx.along (s := S4x128x128) (ix3 b q (⟨k.val, hk⟩ : Fin 128)) (2 : Fin 3)
    (sortedFrom (fun r r' : Fin 128 =>
      Ideal.cmp .ogt (y (Shape.Idx.along (s := S4x128x128) (ix3 b q (⟨k.val, hk⟩ : Fin 128)) (2 : Fin 3) r))
        (y (Shape.Idx.along (s := S4x128x128) (ix3 b q (⟨k.val, hk⟩ : Fin 128)) (2 : Fin 3) r')) == 1#1) (⟨k.val, hk⟩ : Fin 128))
    (2 : Fin 3)).val = _
  simp only [hal]
  rfl

/-- The top-k of the negated distances is the rounds' picks. -/
theorem indices_apply (h : Holds V x W β n H C) (hx : ∀ m, RealCoords (frameAt x m)) (b : Fin 4) (q : Fin 128) (k : Fin 16) :
    (res_main_while0b_indices V : IVec S4x128x16 32) (ix3 b q k)
      = BitVec.ofNat 32 (nb (frameAt x n) (frameAt x (n - 1)) b q k).val := by
  show (Host.topK S4x128x16 2 (FloatOps.cmpfTotal (F := Ideal) (φ := .f32) .gt) (res_main_while0b_v20 V : S4x128x128.Idx → EReal)
    Gen.sliceFits_S4x128x128_S4x128x16).2 (ix3 b q k) = _
  rw [topK_indices, sortedFrom_eq_sel (d := dist (frameAt x n) (frameAt x (n - 1)) b q) (fun r => dist_lt_top (hx _) (hx _) b q r)]
  · rfl
  · intro r r'
    rw [score_apply h, score_apply h]
    obtain ⟨v, hv, ev⟩ := dist_real (hx n) (hx (n - 1)) b q r
    obtain ⟨v', hv', ev'⟩ := dist_real (hx n) (hx (n - 1)) b q r'
    rw [ev, ev']
    exact decide_eq_decide.mpr (neg_sqrt_lt_iff hv hv')

/-- A gather along the last axis of an array of positions reads the named element. -/
theorem gather_pos (X : S4x4x128x128.Idx → EReal) (idx : IVec S4x4x128x16x1 32) (b e : Fin 4) (q : Fin 128) (k : Fin 16)
    (p : Fin 128) (h : idx (ix5 b e q k 0) = BitVec.ofNat 32 p.val) :
    Host.gather gather_S4x4x128x128_S4x4x128x16x1_S4x4x128x16_n_3_012_012_3_4_1111 X idx (ix4 b e q k) = X (ix4 b e q p) := by
  unfold Host.gather
  congr 1
  have hp : (BitVec.ofNat 32 p.val).toInt.toNat = p.val := by
    have := p.isLt
    rw [BitVec.toInt_eq_toNat_of_lt] <;> simp <;> omega
  funext a
  fin_cases a
  · exact Fin.ext (show 0 + b.val + 0 = b.val by omega)
  · exact Fin.ext (show 0 + e.val + 0 = e.val by omega)
  · exact Fin.ext (show 0 + q.val + 0 = q.val by omega)
  · refine Fin.ext ?_
    have hi : (gather_S4x4x128x128_S4x4x128x16x1_S4x4x128x16_n_3_012_012_3_4_1111).siIdx (ix4 b e q k) ⟨0, by decide⟩ = ix5 b e q k 0 := by
      funext c
      fin_cases c <;> rfl
    show min (idx ((gather_S4x4x128x128_S4x4x128x16x1_S4x4x128x16_n_3_012_012_3_4_1111).siIdx (ix4 b e q k) ⟨0, by decide⟩)).toInt.toNat 127 + 0 + 0 = p.val
    rw [hi, h, hp]
    have := p.isLt
    omega

/-- A conjunction along an axis of one element is that element. -/
theorem fold_andi_one (f : Fin 1 → BitVec 1) : Finset.fold IntOp.andi (1#1) f Finset.univ = f 0 := by
  rw [Finset.univ_unique, Finset.fold_singleton]
  show f 0 &&& 1#1 = f 0
  generalize f 0 = w
  revert w
  decide

/-- A word below 128 is not negative and passes the two range tests. -/
theorem word_tests : ∀ p : Fin 128, Scalar.select (IntOp.cmpi .slt (BitVec.ofNat 32 p.val) 0#32)
      (BitVec.ofNat 32 p.val + 128#32) (BitVec.ofNat 32 p.val) = BitVec.ofNat 32 p.val
    ∧ IntOp.andi (IntOp.cmpi .sge (BitVec.ofNat 32 p.val) 0#32) (IntOp.cmpi .sle (BitVec.ofNat 32 p.val) 127#32) = 1#1 := by
  decide

/-- The guarded gather of positions, its indices being in range. -/
def takePos (X : S4x4x128x128.Idx → EReal) (i5 : IVec S4x4x128x16x1 32) : S4x4x128x16.Idx → EReal :=
  select (Host.reduce IntOp.andi (andi (cmpi .sge i5 (broadcastInDim S4x4x128x16x1 ![] Gen.bcast_S_S4x4x128x16x1 (constantI S_ 32 0#32)))
      (cmpi .sle i5 (broadcastInDim S4x4x128x16x1 ![0, 1, 2, 3, 4] Gen.bcast_S1x1x1x1x1_S4x4x128x16x1_0_1_2_3_4
        (broadcastInDim S1x1x1x1x1 ![4] Gen.bcast_S1_S1x1x1x1x1_4 (constantI S1 32 127#32)))))
      (constantI S_ 1 1#1) Gen.reducesTo_S4x4x128x16x1_S4x4x128x16_d4 Gen.h_S_)
    (Host.gather gather_S4x4x128x128_S4x4x128x16x1_S4x4x128x16_n_3_012_012_3_4_1111 X i5)
    (broadcastInDim S4x4x128x16 ![] Gen.bcast_S_S4x4x128x16 (constant (F := Ideal) S_ .f32 0x7FC00000#32))

/-- A position taken at the index `p` is the one at `p`. -/
theorem takePos_apply (X : S4x4x128x128.Idx → EReal) (i5 : IVec S4x4x128x16x1 32) (b e : Fin 4) (q : Fin 128) (k : Fin 16)
    (p : Fin 128) (h : i5 (ix5 b e q k 0) = BitVec.ofNat 32 p.val) : takePos X i5 (ix4 b e q k) = X (ix4 b e q p) := by
  unfold takePos
  pointwise
  rw [fold_andi_one, h, (word_tests p).2, gather_pos X i5 b e q k p h]
  rfl

/-- A gather along the last axis of an array of states reads the named element. -/
theorem gather_state (X : S4x128x128x128.Idx → EReal) (idx : IVec S4x128x128x16x1 32) (b : Fin 4) (e q : Fin 128) (k : Fin 16)
    (p : Fin 128) (h : idx (ix5 b e q k 0) = BitVec.ofNat 32 p.val) :
    Host.gather gather_S4x128x128x128_S4x128x128x16x1_S4x128x128x16_n_3_012_012_3_4_1111 X idx (ix4 b e q k) = X (ix4 b e q p) := by
  unfold Host.gather
  congr 1
  have hp : (BitVec.ofNat 32 p.val).toInt.toNat = p.val := by
    have := p.isLt
    rw [BitVec.toInt_eq_toNat_of_lt] <;> simp <;> omega
  funext a
  fin_cases a
  · exact Fin.ext (show 0 + b.val + 0 = b.val by omega)
  · exact Fin.ext (show 0 + e.val + 0 = e.val by omega)
  · exact Fin.ext (show 0 + q.val + 0 = q.val by omega)
  · refine Fin.ext ?_
    have hi : (gather_S4x128x128x128_S4x128x128x16x1_S4x128x128x16_n_3_012_012_3_4_1111).siIdx (ix4 b e q k) ⟨0, by decide⟩ = ix5 b e q k 0 := by
      funext c
      fin_cases c <;> rfl
    show min (idx ((gather_S4x128x128x128_S4x128x128x16x1_S4x128x128x16_n_3_012_012_3_4_1111).siIdx (ix4 b e q k) ⟨0, by decide⟩)).toInt.toNat 127 + 0 + 0 = p.val
    rw [hi, h, hp]
    have := p.isLt
    omega

/-- The guarded gather of states, its indices being in range. -/
def takeState (X : S4x128x128x128.Idx → EReal) (i5 : IVec S4x128x128x16x1 32) : S4x128x128x16.Idx → EReal :=
  select (Host.reduce IntOp.andi (andi (cmpi .sge i5 (broadcastInDim S4x128x128x16x1 ![] Gen.bcast_S_S4x128x128x16x1 (constantI S_ 32 0#32)))
      (cmpi .sle i5 (broadcastInDim S4x128x128x16x1 ![0, 1, 2, 3, 4] Gen.bcast_S1x1x1x1x1_S4x128x128x16x1_0_1_2_3_4
        (broadcastInDim S1x1x1x1x1 ![4] Gen.bcast_S1_S1x1x1x1x1_4 (constantI S1 32 127#32)))))
      (constantI S_ 1 1#1) Gen.reducesTo_S4x128x128x16x1_S4x128x128x16_d4 Gen.h_S_)
    (Host.gather gather_S4x128x128x128_S4x128x128x16x1_S4x128x128x16_n_3_012_012_3_4_1111 X i5)
    (broadcastInDim S4x128x128x16 ![] Gen.bcast_S_S4x128x128x16 (constant (F := Ideal) S_ .f32 0x7FC00000#32))

/-- A state taken at the index `p` is the one at `p`. -/
theorem takeState_apply (X : S4x128x128x128.Idx → EReal) (i5 : IVec S4x128x128x16x1 32) (b : Fin 4) (e q : Fin 128) (k : Fin 16)
    (p : Fin 128) (h : i5 (ix5 b e q k 0) = BitVec.ofNat 32 p.val) : takeState X i5 (ix4 b e q k) = X (ix4 b e q p) := by
  unfold takeState
  pointwise
  rw [fold_andi_one, h, (word_tests p).2, gather_state X i5 b e q k p h]
  rfl

/-- The positions handed to a gather are the picks. -/
theorem call4_apply (h : Holds V x W β n H C) (hx : ∀ m, RealCoords (frameAt x m)) (b e : Fin 4) (q : Fin 128) (k : Fin 16) :
    (res_main_while0b_call4_v5 V : IVec S4x4x128x16x1 32) (ix5 b e q k 0)
      = BitVec.ofNat 32 (nb (frameAt x n) (frameAt x (n - 1)) b q k).val := by
  have hv : ∀ e, (res_main_while0b_v24 V : IVec S4x4x128x16 32) (ix4 b e q k)
      = BitVec.ofNat 32 (nb (frameAt x n) (frameAt x (n - 1)) b q k).val := by
    intro e
    show broadcastInDim S4x4x128x16 ![0, 1, 2, 3] Gen.bcast_S4x1x128x16_S4x4x128x16_0_1_2_3 (broadcastInDim S4x1x128x16 ![0, 2, 3]
      Gen.bcast_S4x128x16_S4x1x128x16_0_2_3 (res_main_while0b_indices V : IVec S4x128x16 32)) (ix4 b e q k) = _
    pointwise
    exact indices_apply h hx b q k
  show shapeCast S4x4x128x16x1 (select (cmpi .slt (res_main_while0b_v24 V : IVec S4x4x128x16 32)
      (broadcastInDim S4x4x128x16 ![] Gen.bcast_S_S4x4x128x16 (constantI S_ 32 0#32)))
    (addi (res_main_while0b_v24 V : IVec S4x4x128x16 32) (broadcastInDim S4x4x128x16 ![] Gen.bcast_S_S4x4x128x16 (constantI S_ 32 128#32)))
    (res_main_while0b_v24 V : IVec S4x4x128x16 32)) Gen.shapeCasts_S4x4x128x16_S4x4x128x16x1 (ix5 b e q k 0) = _
  pointwise
  rw [hv]
  exact (word_tests _).1

/-- The positions handed to a gather of states. -/
def statePos (idx : IVec S4x128x16 32) : IVec S4x128x128x16x1 32 :=
  let v : IVec S4x128x128x16 32 := broadcastInDim S4x128x128x16 ![0, 1, 2, 3] Gen.bcast_S4x1x128x16_S4x128x128x16_0_1_2_3
    (broadcastInDim S4x1x128x16 ![0, 2, 3] Gen.bcast_S4x128x16_S4x1x128x16_0_2_3 idx)
  shapeCast S4x128x128x16x1 (select (cmpi .slt v (broadcastInDim S4x128x128x16 ![] Gen.bcast_S_S4x128x128x16 (constantI S_ 32 0#32)))
    (addi v (broadcastInDim S4x128x128x16 ![] Gen.bcast_S_S4x128x128x16 (constantI S_ 32 128#32))) v)
    Gen.shapeCasts_S4x128x128x16_S4x128x128x16x1

/-- The states of the neighbours, as the reference takes them. -/
def nbState (Z : S4x128x128.Idx → EReal) (idx : IVec S4x128x16 32) : S4x128x128x16.Idx → EReal :=
  takeState (broadcastInDim S4x128x128x128 ![0, 1, 2, 3] Gen.bcast_S4x128x1x128_S4x128x128x128_0_1_2_3
    (broadcastInDim S4x128x1x128 ![0, 1, 3] Gen.bcast_S4x128x128_S4x128x1x128_0_1_3 Z)) (statePos idx)

/-- A neighbour's state is the state at its index. -/
theorem nbState_apply (Z : S4x128x128.Idx → EReal) (idx : IVec S4x128x16 32) (b : Fin 4) (d q : Fin 128) (k : Fin 16)
    (p : Fin 128) (hp : idx (ix3 b q k) = BitVec.ofNat 32 p.val) : nbState Z idx (ix4 b d q k) = Z (ix3 b d p) := by
  unfold nbState
  rw [takeState_apply _ _ b d q k p]
  · pointwise
  · unfold statePos
    pointwise
    rw [hp]
    exact (word_tests p).1

/-- The point's own features, the same for each neighbour. -/
theorem feat_now (h : Holds V x W β n H C) (b : Fin 4) (c : Fin 68) (q : Fin 128) (k : Fin 16) :
    (res_main_while0b_v37 V : S4x68x128x16.Idx → EReal) (ix4 b c q k) = frameAt x n b c q := by
  show broadcastInDim S4x68x128x16 ![0, 1, 2, 3] Gen.bcast_S4x68x128x1_S4x68x128x16_0_1_2_3 (broadcastInDim S4x68x128x1 ![0, 1, 2]
    Gen.bcast_S4x68x128_S4x68x128x1_0_1_2 (shapeCast S4x68x128 (Host.dynamicSlice S4x1x68x128
      (V (Proc.devRef .tc main_v4_0) : S4x16x68x128.Idx → EReal) (startOf (V (Proc.devRef .tc main_v4_5)))
      Gen.sliceFits_S4x16x68x128_S4x1x68x128) Gen.shapeCasts_S4x1x68x128_S4x68x128)) (ix4 b c q k) = _
  rw [startOf_eq h.step_lt h.step, h.input]
  have hn := h.step_lt
  pointwise [Host.clampedStart]
  exact congrArg x (ix4_congr (by simp) (by simp; omega) (by simp) (by simp))

/-- The linear layer. -/
theorem gate_apply (h : Holds V x W β n H C) (hx : ∀ m, RealCoords (frameAt x m)) (b : Fin 4) (o : Fin 512) (q : Fin 128)
    (k : Fin 16) : (res_main_while0b_v45 V : S4x512x128x16.Idx → EReal) (ix4 b o q k)
      = gate (fun o c => W (ix2 o c)) (fun o => β (ix1 o)) (frameAt x n) (frameAt x (n - 1)) H b o q k := by
  show addf (φ := .f32) (F := Ideal) (transpose S4x512x128x16 [0, 3, 1, 2] (Host.dotGeneral dot_S4x200x128x16_S512x200_S4x128x16x512_1_1_023_0_n_n none
      (concatenate S4x200x128x16 1 [⟨S4x68x128x16, (res_main_while0b_v37 V : S4x68x128x16.Idx → EReal)⟩,
        ⟨S4x4x128x16, subf (φ := .f32) (F := Ideal) (takePos (broadcastInDim S4x4x128x128 ![0, 1, 2, 3] Gen.bcast_S4x4x1x128_S4x4x128x128_0_1_2_3
            (broadcastInDim S4x4x1x128 ![0, 1, 3] Gen.bcast_S4x4x128_S4x4x1x128_0_1_3 (res_main_while0b_v11 V : S4x4x128.Idx → EReal)))
            (res_main_while0b_call4_v5 V))
          (extractStridedSlice S4x4x128x16 ![0, 0, 0, 0] (res_main_while0b_v37 V : S4x68x128x16.Idx → EReal) Gen.slices_S4x68x128x16_S4x4x128x16_0_0_0_0)⟩,
        ⟨S4x128x128x16, nbState (V (Proc.devRef .tc main_v4_6)) (res_main_while0b_indices V)⟩]
        Gen.concatenates_S4x68x128x16_S4x4x128x16_S4x128x128x16_S4x200x128x16_d1)
      (V (Proc.devRef .tc main_v4_2) : S512x200.Idx → EReal)) Gen.transposes_S4x128x16x512_S4x512x128x16_0_3_1_2)
    (broadcastInDim S4x512x128x16 ![0, 1, 2, 3] Gen.bcast_S1x512x1x1_S4x512x128x16_0_1_2_3 (broadcastInDim S1x512x1x1 ![1]
      Gen.bcast_S512_S1x512x1x1_1 (V (Proc.devRef .tc main_v4_3) : S512.Idx → EReal))) (ix4 b o q k) = _
  rw [h.weight, h.bias, h.hidden]
  pointwise
  unfold gate feat
  refine congrArg (· + β (ix1 o)) (Finset.sum_congr rfl fun c _ => congrArg (· * W (ix2 o c)) ?_)
  by_cases h1 : c.val < 68
  · rw [dif_pos h1, dif_pos h1, feat_now h]
  · rw [dif_neg h1, dif_neg h1]
    by_cases h2 : c.val - 68 < 4
    · rw [dif_pos h2, dif_pos h2, takePos_apply _ _ b _ q k _ (call4_apply h hx b _ q k)]
      pointwise
      rw [pos_prev h, feat_now h]
      rfl
    · rw [dif_neg h2, dif_neg h2, nbState_apply _ _ b _ q k _ (indices_apply h hx b q k)]
      rfl

/-- A gate after the reference's sigmoid. -/
def sigm (g : S4x128x128x16.Idx → EReal) : S4x128x128x16.Idx → EReal :=
  Host.divf (F := Ideal) (φ := .f32) (broadcastInDim S4x128x128x16 ![] Gen.bcast_S_S4x128x128x16 (constant S_ .f32 0x3F800000#32))
    (addf (broadcastInDim S4x128x128x16 ![] Gen.bcast_S_S4x128x128x16 (constant S_ .f32 0x3F800000#32)) (Host.exp (Host.negf g)))

/-- An entry of the sigmoid. -/
theorem sigm_apply (g : S4x128x128x16.Idx → EReal) (b : Fin 4) (d q : Fin 128) (k : Fin 16) :
    sigm g (ix4 b d q k) = Ideal.logistic (g (ix4 b d q k)) := by
  unfold sigm
  pointwise
  rfl

/-- The new cell value of every neighbour. -/
theorem cell_apply (h : Holds V x W β n H C) (hx : ∀ m, RealCoords (frameAt x m)) (b : Fin 4) (d q : Fin 128)
    (k : Fin 16) : (res_main_while0b_v71 V : S4x128x128x16.Idx → EReal) (ix4 b d q k)
      = cellOf (fun o c => W (ix2 o c)) (fun o => β (ix1 o)) (frameAt x n) (frameAt x (n - 1)) H C b d q k := by
  show addf (φ := .f32) (F := Ideal)
    (mulf (sigm (extractStridedSlice S4x128x128x16 ![0, 128, 0, 0] (res_main_while0b_v45 V : S4x512x128x16.Idx → EReal) Gen.slices_S4x512x128x16_S4x128x128x16_0_128_0_0))
      (nbState (V (Proc.devRef .tc main_v4_7)) (res_main_while0b_indices V)))
    (mulf (sigm (extractStridedSlice S4x128x128x16 ![0, 0, 0, 0] (res_main_while0b_v45 V : S4x512x128x16.Idx → EReal) Gen.slices_S4x512x128x16_S4x128x128x16_0_0_0_0))
      (Host.tanh (extractStridedSlice S4x128x128x16 ![0, 384, 0, 0] (res_main_while0b_v45 V : S4x512x128x16.Idx → EReal) Gen.slices_S4x512x128x16_S4x128x128x16_0_384_0_0)))
    (ix4 b d q k) = _
  rw [h.cell]
  pointwise
  rw [sigm_apply, sigm_apply, nbState_apply _ _ b _ q k _ (indices_apply h hx b q k)]
  pointwise
  rw [gate_apply h hx, gate_apply h hx, gate_apply h hx]
  rfl

/-- The reference's maximum over the neighbours. -/
def maxOver (g : S4x128x128x16.Idx → EReal) : S4x128x128.Idx → EReal :=
  Host.reduce (FloatOps.maximumf (F := Ideal) (φ := .f32)) g (constant (F := Ideal) S_ .f32 0xFF800000#32)
    Gen.reducesTo_S4x128x128x16_S4x128x128_d3 Gen.h_S_

/-- The word of negative infinity. -/
theorem neg_inf : Ideal.ofBits FTy.f32 0xFF800000#32 = (⊥ : EReal) := by
  simp [Ideal.ofBits, Ideal.ieee]

/-- An entry of the maximum over the neighbours. -/
theorem maxOver_apply (g : S4x128x128x16.Idx → EReal) (b : Fin 4) (d q : Fin 128) :
    maxOver g (ix3 b d q) = Finset.univ.fold max ⊥ fun k : Fin 16 => g (ix4 b d q k) := by
  unfold maxOver
  pointwise
  rw [neg_inf]

/-- The new hidden value: the largest over the neighbours. -/
theorem hidden_apply (h : Holds V x W β n H C) (hx : ∀ m, RealCoords (frameAt x m)) (b : Fin 4) (d q : Fin 128) :
    (res_main_while0b_v74 V : S4x128x128.Idx → EReal) (ix3 b d q)
      = stepH (fun o c => W (ix2 o c)) (fun o => β (ix1 o)) (frameAt x n) (frameAt x (n - 1)) H C b d q := by
  show maxOver (mulf (φ := .f32) (F := Ideal)
    (sigm (extractStridedSlice S4x128x128x16 ![0, 256, 0, 0] (res_main_while0b_v45 V : S4x512x128x16.Idx → EReal) Gen.slices_S4x512x128x16_S4x128x128x16_0_256_0_0))
    (Host.tanh (res_main_while0b_v71 V : S4x128x128x16.Idx → EReal))) (ix3 b d q) = _
  rw [maxOver_apply]
  unfold stepH
  congr 1
  funext k
  pointwise
  rw [sigm_apply, cell_apply h hx]
  pointwise
  rw [gate_apply h hx]
  rfl

/-- The new cell state. -/
theorem newCell_apply (h : Holds V x W β n H C) (hx : ∀ m, RealCoords (frameAt x m)) (b : Fin 4) (d q : Fin 128) :
    (step_main_v4_7 V : S4x128x128.Idx → EReal) (ix3 b d q)
      = stepC (fun o c => W (ix2 o c)) (fun o => β (ix1 o)) (frameAt x n) (frameAt x (n - 1)) H C b d q := by
  unfold step_main_v4_7
  rw [id_eq]
  show maxOver (res_main_while0b_v71 V : S4x128x128x16.Idx → EReal) (ix3 b d q) = _
  rw [maxOver_apply]
  exact congrArg (Finset.univ.fold max ⊥) (funext fun k => cell_apply h hx b d q k)

/-- Writing one row of the output array. -/
theorem write_row (Z : S4x16x132x128.Idx → EReal) (p : S4x4x128.Idx → EReal) (u : S4x128x128.Idx → EReal) (hn : n < 16)
    (b : Fin 4) (t : Fin 16) (c : Fin 132) (q : Fin 128) :
    Host.dynamicUpdateSlice Z (broadcastInDim S4x1x132x128 ![0, 2, 3]
      Gen.bcast_S4x132x128_S4x1x132x128_0_2_3 (concatenate S4x132x128 1 [⟨S4x4x128, p⟩,
      ⟨S4x128x128, u⟩] Gen.concatenates_S4x4x128_S4x128x128_S4x132x128_d1))
      ![0, (n : Int), 0, 0] Gen.updateFits_S4x16x132x128_S4x1x132x128 (ix4 b t c q)
      = if t.val = n then (if hc : c.val < 4 then p (ix3 b ⟨c.val, hc⟩ q) else u (ix3 b ⟨c.val - 4, by omega⟩ q))
        else Z (ix4 b t c q) := by
  have e : (fun a => (min (max ((![0, (n : Int), 0, 0] : Fin 4 → Int) a) 0) ((S4x16x132x128.size a - S4x1x132x128.size a : ℕ) : Int)).toNat)
      = (![0, n, 0, 0] : Fin 4 → ℕ) := by
    funext a
    fin_cases a
    · rfl
    · show (min (max (n : Int) 0) ((15 : ℕ) : Int)).toNat = n
      omega
    · rfl
    · rfl
  have hs : ∀ st : Fin 4 → ℕ, st = ![0, n, 0, 0] → ∀ hst : S4x16x132x128.Slices st S4x1x132x128,
      updateSlice Z (broadcastInDim S4x1x132x128 ![0, 2, 3]
        Gen.bcast_S4x132x128_S4x1x132x128_0_2_3 (concatenate S4x132x128 1 [⟨S4x4x128, p⟩,
        ⟨S4x128x128, u⟩] Gen.concatenates_S4x4x128_S4x128x128_S4x132x128_d1)) st hst (ix4 b t c q)
      = if t.val = n then (if hc : c.val < 4 then p (ix3 b ⟨c.val, hc⟩ q) else u (ix3 b ⟨c.val - 4, by omega⟩ q))
        else Z (ix4 b t c q) := by
    intro st est hst
    subst est
    by_cases ht : t.val = n
    · rw [if_pos ht]
      pointwise
      rw [dif_pos (show n ≤ t.val ∧ t.val < n + 1 by omega)]
    · rw [if_neg ht]
      pointwise
      rw [dif_neg (show ¬(n ≤ t.val ∧ t.val < n + 1) by omega)]
  unfold Host.dynamicUpdateSlice
  exact hs _ e _

/-- The output array after the step: its row `n` is written. -/
theorem out_apply (h : Holds V x W β n H C) (hx : ∀ m, RealCoords (frameAt x m)) (b : Fin 4) (t : Fin 16) (c : Fin 132) (q : Fin 128) :
    (step_main_v4_8 V : S4x16x132x128.Idx → EReal) (ix4 b t c q)
      = if t.val = n then (if hc : c.val < 4 then frameAt x n b (coord ⟨c.val, hc⟩) q
          else stepH (fun o c => W (ix2 o c)) (fun o => β (ix1 o)) (frameAt x n) (frameAt x (n - 1)) H C b ⟨c.val - 4, by omega⟩ q)
        else (V (Proc.devRef .tc main_v4_8) : S4x16x132x128.Idx → EReal) (ix4 b t c q) := by
  show Host.dynamicUpdateSlice (V (Proc.devRef .tc main_v4_8) : S4x16x132x128.Idx → EReal) (broadcastInDim S4x1x132x128 ![0, 2, 3]
    Gen.bcast_S4x132x128_S4x1x132x128_0_2_3 (concatenate S4x132x128 1 [⟨S4x4x128, (res_main_while0b_v7 V : S4x4x128.Idx → EReal)⟩,
      ⟨S4x128x128, (res_main_while0b_v74 V : S4x128x128.Idx → EReal)⟩] Gen.concatenates_S4x4x128_S4x128x128_S4x132x128_d1))
    (startOf (V (Proc.devRef .tc main_v4_5))) Gen.updateFits_S4x16x132x128_S4x1x132x128 (ix4 b t c q) = _
  rw [startOf_eq h.step_lt h.step, write_row _ _ _ h.step_lt]
  simp only [pos_now h, hidden_apply h hx]

end Cert.RefStep
-- ==== Proof.RefRun.lean ====
module

public import proofs.«01_k».proof.Proof.RefStep

@[expose] public section

/-! The reference's whole loop: what its output array holds after the sixteen steps. -/

set_option maxRecDepth 16384

noncomputable section

namespace Cert.RefStep

open Idealize.ShloMosaic Idealize.ShloMosaic.TcCoe Cert.Spec
open Cert.ReferenceIdeal Cert.ReferenceIdeal.Value Cert.ReferenceIdeal.Gen StableHlo

attribute [local irreducible] sortedFrom

/-- What the reference computes: the output array, of the three arguments. -/
def outOf (x : S4x16x68x128.Idx → EReal) (W : S512x200.Idx → EReal) (β : S512.Idx → EReal) :
    S4x16x132x128.Idx → EReal := fun i =>
  if hc : (i 2).val < 4 then frameAt x (i 1).val (i 0) (coord ⟨(i 2).val, hc⟩) (i 3)
  else (states (fun o c => W (ix2 o c)) (fun o => β (ix1 o)) (frameAt x) ((i 1).val + 1)).1 (i 0)
    ⟨(i 2).val - 4, by have := (i 2).isLt; change (i 2).val < 132 at this; omega⟩ (i 3)

section

variable (m : (ℓ : Loc nD τ sig) → Buf (Elt Ideal) ℓ)

/-- The loop starts with the input. -/
theorem entry_input (c : Dev nD) : entryContents preI m c (Proc.devRef .tc main_v4_0) = m ((c.tc : Thread nD τ).loc main_arg0) := by
  simp only [entryContents, afterL_cons, afterL_nil]
  after_reads_simp
  rfl

/-- The loop starts with the weights. -/
theorem entry_weight (c : Dev nD) : entryContents preI m c (Proc.devRef .tc main_v4_2) = m ((c.tc : Thread nD τ).loc main_arg1) := by
  simp only [entryContents, afterL_cons, afterL_nil]
  after_reads_simp
  rfl

/-- The loop starts with the bias. -/
theorem entry_bias (c : Dev nD) : entryContents preI m c (Proc.devRef .tc main_v4_3) = m ((c.tc : Thread nD τ).loc main_arg2) := by
  simp only [entryContents, afterL_cons, afterL_nil]
  after_reads_simp
  rfl

/-- The loop starts at step 0. -/
theorem entry_step (c : Dev nD) : entryContents preI m c (Proc.devRef .tc main_v4_5) = fun _ => BitVec.ofNat 32 0 := by
  simp only [entryContents, afterL_cons, afterL_nil]
  after_reads_simp
  rfl

/-- The loop starts with the positions, the first four channels of the input. -/
theorem entry_pos (c : Dev nD) (b : Fin 4) (t : Fin 16) (e : Fin 4) (q : Fin 128) :
    (entryContents preI m c (Proc.devRef .tc main_v4_1) : S4x16x4x128.Idx → EReal) (ix4 b t e q)
      = (m ((c.tc : Thread nD τ).loc main_arg0) : S4x16x68x128.Idx → EReal) (ix4 b t (coord e) q) := by
  simp only [entryContents, afterL_cons, afterL_nil]
  after_reads_simp
  show extractStridedSlice S4x16x4x128 ![0, 0, 0, 0] (m ((c.tc : Thread nD τ).loc main_arg0) : S4x16x68x128.Idx → EReal)
    slices_S4x16x68x128_S4x16x4x128_0_0_0_0 (ix4 b t e q) = _
  pointwise
  rfl

/-- The state the loop starts with is zero. -/
theorem zero_state (i : S4x128x128.Idx) :
    broadcastInDim S4x128x128 ![] bcast_S_S4x128x128 (constant (F := Ideal) S_ .f32 0x00000000#32) i = (0 : EReal) := by
  pointwise

/-- The loop starts with zero hidden states. -/
theorem entry_hidden (c : Dev nD) : entryContents preI m c (Proc.devRef .tc main_v4_6) = fun _ : S4x128x128.Idx => (0 : EReal) := by
  simp only [entryContents, afterL_cons, afterL_nil]
  after_reads_simp
  exact funext zero_state

/-- The loop starts with zero cell states. -/
theorem entry_cell (c : Dev nD) : entryContents preI m c (Proc.devRef .tc main_v4_7) = fun _ : S4x128x128.Idx => (0 : EReal) := by
  simp only [entryContents, afterL_cons, afterL_nil]
  after_reads_simp
  exact funext zero_state

/-- Two arrays of states agree when they agree at every coordinate. -/
theorem of_coords {f : S4x128x128.Idx → EReal} {g : State} (h : ∀ b d q, f (ix3 b d q) = g b d q) (i : S4x128x128.Idx) :
    f i = g (i 0) (i 1) (i 2) :=
  (congrArg f (eq_ix3 i)).trans (h _ _ _)

/-- Before step `n` the loop holds the states after `n` steps, and the first `n` rows of the output are written. -/
theorem holds_iterate (c : Dev nD) {x : S4x16x68x128.Idx → EReal} {W : S512x200.Idx → EReal} {β : S512.Idx → EReal}
    (h0 : m ((c.tc : Thread nD τ).loc main_arg0) = x) (h1 : m ((c.tc : Thread nD τ).loc main_arg1) = W)
    (h2 : m ((c.tc : Thread nD τ).loc main_arg2) = β) (hx : ∀ k, RealCoords (frameAt x k)) :
    ∀ n, n ≤ 16 →
      (n < 16 → Holds (STEP^[n] (entryContents preI m c)) x W β n
        (states (fun o c => W (ix2 o c)) (fun o => β (ix1 o)) (frameAt x) n).1
        (states (fun o c => W (ix2 o c)) (fun o => β (ix1 o)) (frameAt x) n).2)
      ∧ ∀ (b : Fin 4) (t : Fin 16) (e : Fin 132) (q : Fin 128), t.val < n →
        ((STEP^[n] (entryContents preI m c)) (Proc.devRef .tc main_v4_8) : S4x16x132x128.Idx → EReal) (ix4 b t e q)
          = outOf x W β (ix4 b t e q)
  | 0, _ => by
    refine ⟨fun _ => ⟨by decide, entry_step m c, (entry_input m c).trans h0, fun b t e q => (entry_pos m c b t e q).trans (by rw [h0]),
      (entry_weight m c).trans h1, (entry_bias m c).trans h2, entry_hidden m c, entry_cell m c⟩, fun b t e q h => absurd h (by omega)⟩
  | n + 1, hn => by
    obtain ⟨hh, ho⟩ := holds_iterate c h0 h1 h2 hx n (by omega)
    have h := hh (by omega)
    rw [Function.iterate_succ_apply']
    generalize STEP^[n] (entryContents preI m c) = V at h ho ⊢
    refine ⟨fun hlt => ⟨hlt, ?_, ?_, ?_, ?_, ?_, ?_, ?_⟩, ?_⟩
    · rw [STEP_main_v4_5]
      unfold step_main_v4_5
      rw [h.step]
      funext i
      show BitVec.ofNat 32 n + 1#32 = BitVec.ofNat 32 (n + 1)
      rw [BitVec.ofNat_add]
    · rw [STEP_main_v4_0, h.input]
    · intro b t e q
      rw [STEP_main_v4_1]
      exact h.pos b t e q
    · rw [STEP_main_v4_2, h.weight]
    · rw [STEP_main_v4_3, h.bias]
    · rw [STEP_main_v4_6]
      unfold step_main_v4_6
      rw [id_eq]
      exact funext (of_coords (f := res_main_while0b_v74 V) (hidden_apply h hx))
    · rw [STEP_main_v4_7]
      exact funext (of_coords (newCell_apply h hx))
    · intro b t e q ht
      rw [STEP_main_v4_8]
      refine (out_apply h hx b t e q).trans ?_
      by_cases htn : t.val = n
      · rw [if_pos htn]
        subst htn
        rfl
      · rw [if_neg htn]
        exact ho b t e q (by omega)

/-- The reference's result. -/
theorem out_eq (c : Dev nD) {x : S4x16x68x128.Idx → EReal} {W : S512x200.Idx → EReal} {β : S512.Idx → EReal}
    (h0 : m ((c.tc : Thread nD τ).loc main_arg0) = x) (h1 : m ((c.tc : Thread nD τ).loc main_arg1) = W)
    (h2 : m ((c.tc : Thread nD τ).loc main_arg2) = β) (hx : ∀ k, RealCoords (frameAt x k)) :
    (STEP^[16] (entryContents preI m c)) (Proc.devRef .tc main_v4_8) = outOf x W β := by
  funext i
  rw [show i = ix4 (i 0) (i 1) (i 2) (i 3) from eq_ix4 i]
  exact (holds_iterate m c h0 h1 h2 hx 16 (by omega)).2 _ _ _ _ (i 1).isLt

end

end Cert.RefStep
-- ==== Proof.Value.lean ====
module

public import proofs.«01_k».proof.Defs
public import proofs.«01_k».proof.Proof.KernelHost
public import proofs.«01_k».proof.Proof.RefRun
public import Idealize.ShloMosaic.Lib.ReduceAll
public import Idealize.ShloMosaic.Lib.StableHlo.Predicate

@[expose] public section

/-! The kernel computes what the reference computes, on finite positions and finite weights of the offsets. -/

set_option maxRecDepth 16384

noncomputable section

namespace Cert.Value

open Idealize.ShloMosaic Idealize.ShloMosaic.TcCoe Idealize.SL.Sem Cert.Spec

attribute [local irreducible] sortedFrom

/-- A value whose size compares below infinity is a real number. -/
theorem real_of_below {v : EReal} (h : Ideal.cmp .olt (max v (-v) : EReal) (Ideal.ofBits FTy.f32 0x7F800000#32) = 1#1) :
    ∃ r : ℝ, v = r := by
  rw [KernelStep.pos_inf] at h
  have hlt : max v (-v) < ⊤ := of_decide_eq_true ((StableHlo.Predicate.ofBool_eq_one_iff _).1 h)
  induction v with
  | bot => simp at hlt
  | top => simp at hlt
  | coe r => exact ⟨r, rfl⟩

section Precondition

variable [Cert.Pre_finite_positions_and_offset_weights.Facts]
variable {x : Cert.KernelIdeal.S4x16x68x128.Idx → EReal} {W : Cert.KernelIdeal.S512x200.Idx → EReal} {β : Cert.KernelIdeal.S512.Idx → EReal}

/-- What the precondition says: the positions and the weights of the offsets are real numbers. -/
theorem real_inputs (h : Cert.Pre_finite_positions_and_offset_weights.fn (F := Ideal) x W β = fun _ => 1#1) :
    (∀ n, RealCoords (frameAt x n)) ∧ RealOffsets (fun o c => W (ix2 o c)) := by
  have e := congrFun h (fun d => d.elim0)
  simp only [Cert.Pre_finite_positions_and_offset_weights.fn] at e
  obtain ⟨ex, eW⟩ := IntOp.andi_eq_one.1 e
  haveI : Subsingleton Cert.Pre_finite_positions_and_offset_weights.S_.Idx := ⟨fun _ _ => funext fun d => d.elim0⟩
  refine ⟨fun n b d q => ?_, fun o d => ?_⟩
  · have k := Host.reduce_andi_all _ _ _ _ _ ex (ix4 b (Fin.ofNat 16 n) d q)
    refine real_of_below (v := frameAt x n b (coord d) q) (Eq.trans ?_ k)
    unfold frameAt
    pointwise
    rfl
  · have k := Host.reduce_andi_all _ _ _ _ _ eW (ix2 o d)
    refine real_of_below (Eq.trans ?_ k)
    pointwise
    rfl

end Precondition

/-- The positions above the hidden states are the reference's output array. -/
theorem joined_eq (x : Cert.KernelIdeal.S4x16x68x128.Idx → EReal) (W : Cert.KernelIdeal.S512x200.Idx → EReal) (β : Cert.KernelIdeal.S512.Idx → EReal) :
    KernelStep.joined x (KernelStep.hiddenOut (fun o c => W (ix2 o c)) (fun o => β (ix1 o)) x) = RefStep.outOf x W β := by
  funext i
  obtain ⟨b, t, e, q, rfl⟩ : ∃ (b : Fin 4) (t : Fin 16) (e : Fin 132) (q : Fin 128), i = ix4 b t e q := ⟨i 0, i 1, i 2, i 3, eq_ix4 i⟩
  rw [KernelStep.joined_apply]
  show _ = if hc : e.val < 4 then frameAt x t.val b (coord ⟨e.val, hc⟩) q else _
  by_cases he : e.val < 4
  · rw [dif_pos he, dif_pos he]
    unfold frameAt
    rw [show Fin.ofNat 16 t.val = t from Fin.ext (Nat.mod_eq_of_lt t.isLt)]
    rfl
  · rw [dif_neg he, dif_neg he]
    rfl

/-- The kernel's region leaves the hidden states. -/
theorem out_is (m : (ℓ : Loc Cert.KernelIdeal.nD Cert.KernelIdeal.τ Cert.KernelIdeal.sig) → Buf (Elt Ideal) ℓ)
    (x : Dev Cert.KernelIdeal.nD → Cert.KernelIdeal.S4x16x68x128.Idx → EReal) (W : Dev Cert.KernelIdeal.nD → Cert.KernelIdeal.S512x200.Idx → EReal)
    (β : Dev Cert.KernelIdeal.nD → Cert.KernelIdeal.S512.Idx → EReal)
    (h0 : ∀ c : Dev Cert.KernelIdeal.nD, m ((c.tc : Thread Cert.KernelIdeal.nD Cert.KernelIdeal.τ).loc Cert.KernelIdeal.main_arg0) = x c)
    (h1 : ∀ c : Dev Cert.KernelIdeal.nD, m ((c.tc : Thread Cert.KernelIdeal.nD Cert.KernelIdeal.τ).loc Cert.KernelIdeal.main_arg1) = W c)
    (h2 : ∀ c : Dev Cert.KernelIdeal.nD, m ((c.tc : Thread Cert.KernelIdeal.nD Cert.KernelIdeal.τ).loc Cert.KernelIdeal.main_arg2) = β c)
    (hx : ∀ c n, RealCoords (frameAt (x c) n)) (hW : ∀ c, RealOffsets (fun o e => W c (ix2 o e))) :
    Cert.KernelIdeal.Hand.OutIs m fun c => KernelStep.hiddenOut (fun o e => W c (ix2 o e)) (fun o => β c (ix1 o)) (x c) := by
  intro c
  have hw := KernelStep.entry_weights m c
  rw [KernelStep.window0, Cert.KernelIdeal.Hand.V_arg m _ (Or.inl rfl) c, h0 c]
  simp only [h1 c, h2 c] at hw
  exact KernelStep.leaves _ _ _ _ _ _ _ (hx c) (hW c) hw

/-- From memories that agree on the three arguments, and hold finite positions and finite weights of the offsets, the
    kernel and the reference end with the same result, and their arguments unchanged. -/
theorem algebraic (hPre : Cert.Pre_finite_positions_and_offset_weights.Facts) :
    Cert.algebraic_KernelIdeal_ReferenceIdeal_pre_finite_positions_and_offset_weights (hKernelIdeal := Cert.KernelIdeal.Gen.facts)
      (hReferenceIdeal := Cert.ReferenceIdeal.Gen.facts) := by
  intro m g m' g' hpre hargs
  let x := fun c : Dev Cert.KernelIdeal.nD => (m ((c.tc : Thread Cert.KernelIdeal.nD Cert.KernelIdeal.τ).loc Cert.KernelIdeal.main_arg0) : Cert.KernelIdeal.S4x16x68x128.Idx → EReal)
  let W := fun c : Dev Cert.KernelIdeal.nD => (m ((c.tc : Thread Cert.KernelIdeal.nD Cert.KernelIdeal.τ).loc Cert.KernelIdeal.main_arg1) : Cert.KernelIdeal.S512x200.Idx → EReal)
  let β := fun c : Dev Cert.KernelIdeal.nD => (m ((c.tc : Thread Cert.KernelIdeal.nD Cert.KernelIdeal.τ).loc Cert.KernelIdeal.main_arg2) : Cert.KernelIdeal.S512.Idx → EReal)
  have hr := fun c => real_inputs (x := x c) (W := W c) (β := β c) (hpre c)
  refine ⟨fun c => RefStep.outOf (x c) (W c) (β c), ?_, ?_⟩
  · refine (θ_run _ _ _).mono (fun r h c => ⟨((h c).1.trans (KernelStep.tail_eq m c _)).trans (joined_eq (x c) (W c) (β c)), (h c).2⟩)
      (Cert.KernelIdeal.Hand.run_exact m g _ (out_is m x W β (fun _ => rfl) (fun _ => rfl) (fun _ => rfl) (fun c => (hr c).1) fun c => (hr c).2))
  · refine (θ_run _ _ _).mono (fun r h c => ⟨(h c).1.trans ?_, (h c).2⟩) (Cert.ReferenceIdeal.Value.run (F := Ideal) m' g')
    exact RefStep.out_eq m' c (hargs c).1 (hargs c).2.1 (hargs c).2.2 (hr c).1

end Cert.Value

end
-- ==== Proof.lean ====
/- The claim: both kernels and the reference run and leave their arguments and every counter as they were, the named
   constant of the idealized kernel stands for the value the claim says, and the idealized kernel computes what the
   reference computes. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.KernelRun
public import proofs.«01_k».proof.Proof.KernelIdealRun
public import Idealize.ShloMosaic.Lib.Quiescent
public import proofs.«01_k».proof.Proof.Value

@[expose] public section

noncomputable section

namespace Cert.Proof

open Idealize.ShloMosaic Idealize.SL.Sem

/-- The shape facts the precondition is stated with. -/
theorem preFacts : Cert.Pre_finite_positions_and_offset_weights.Facts where
  slices_S4x16x68x128_S4x16x4x128_0_0_0_0 := by decide
  slices_S512x200_S512x4_0_68 := by decide
  bcast_S_S4x16x4x128 := by decide
  reducesTo_S4x16x4x128_S_d0_1_2_3 := by decide
  h_S_ := by decide
  bcast_S_S512x4 := by decide
  reducesTo_S512x4_S_d0_1 := by decide

/-- The reference's run: it ends, its arguments as they were; it has no counter that could be left raised. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run (F := Ideal) m g)

theorem claim : Cert.Claim :=
  ⟨Cert.Kernel.Gen.facts, Cert.KernelIdeal.Gen.facts, Cert.ReferenceIdeal.Gen.facts, preFacts,
    fun m g _ => Cert.Kernel.Hand.run_frame m g,
    fun m g _ => Cert.KernelIdeal.Hand.run_frame m g,
    fun m g _ => Cert.KernelIdeal.Hand.run_frame m g,
    reference_frame,
    fun m g _ => reference_frame m g trivial,
    IdealRules.named_const.statement Cert.KernelIdeal.κ "big" .f32 0x7F61B1E6#32 ⊤ rfl,
    Cert.Value.algebraic preFacts⟩

end Cert.Proof

end
